-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_columns_and_experts_in_range [hPre_finite_columns_and_experts_in_range : Cert.Pre_finite_columns_and_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_columns_and_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_columns_and_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_columns_and_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_columns_and_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_columns_and_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_columns_and_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_columns_and_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite_columns_and_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_columns_and_experts_in_range [hPre_finite_columns_and_experts_in_range : Cert.Pre_finite_columns_and_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_columns_and_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_columns_and_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_columns_and_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_columns_and_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_columns_and_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_columns_and_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_columns_and_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite_columns_and_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_columns_and_experts_in_range [hKernelIdeal : Cert.KernelIdeal.Facts] [hPre_finite_columns_and_experts_in_range : Cert.Pre_finite_columns_and_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_columns_and_experts_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_columns_and_experts_in_range [hReferenceIdeal : Cert.ReferenceIdeal.Facts] [hPre_finite_columns_and_experts_in_range : Cert.Pre_finite_columns_and_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_columns_and_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_columns_and_experts_in_range [hKernelIdeal : Cert.KernelIdeal.Facts] [hReferenceIdeal : Cert.ReferenceIdeal.Facts] [hPre_finite_columns_and_experts_in_range : Cert.Pre_finite_columns_and_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_columns_and_experts_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_columns_and_experts_in_range : Cert.Pre_finite_columns_and_experts_in_range.Facts),
    quiescent_Kernel (hKernel := hKernel)
    ∧ quiescent_KernelIdeal (hKernelIdeal := hKernelIdeal)
    ∧ quiescent_KernelIdeal_pre_finite_columns_and_experts_in_range (hKernelIdeal := hKernelIdeal) (hPre_finite_columns_and_experts_in_range := hPre_finite_columns_and_experts_in_range)
    ∧ quiescent_ReferenceIdeal (hReferenceIdeal := hReferenceIdeal)
    ∧ quiescent_ReferenceIdeal_pre_finite_columns_and_experts_in_range (hReferenceIdeal := hReferenceIdeal) (hPre_finite_columns_and_experts_in_range := hPre_finite_columns_and_experts_in_range)
    ∧ preserves_Kernel_KernelIdeal
    ∧ algebraic_KernelIdeal_ReferenceIdeal_pre_finite_columns_and_experts_in_range (hKernelIdeal := hKernelIdeal) (hReferenceIdeal := hReferenceIdeal) (hPre_finite_columns_and_experts_in_range := hPre_finite_columns_and_experts_in_range)
-- ==== Pre_finite_columns_and_experts_in_range.lean ====
abbrev S34x128x256 : Shape := ⟨3, ![34, 128, 256]⟩
abbrev S128x256 : Shape := ⟨2, ![128, 256]⟩
abbrev S34 : Shape := ⟨1, ![34]⟩
abbrev S68x70 : Shape := ⟨2, ![68, 70]⟩
abbrev S68 : Shape := ⟨1, ![68]⟩
abbrev S8x34x103 : Shape := ⟨3, ![8, 34, 103]⟩
abbrev S8x34 : Shape := ⟨2, ![8, 34]⟩
abbrev S_ : Shape := ⟨0, ![]⟩

class Facts : Prop where
  bcast_S_S34x128x256 : S_.BroadcastsInDim S34x128x256 (![] : Fin 0 → Fin S34x128x256.rank)
  bcast_S_S128x256 : S_.BroadcastsInDim S128x256 (![] : Fin 0 → Fin S128x256.rank)
  bcast_S_S68x70 : S_.BroadcastsInDim S68x70 (![] : Fin 0 → Fin S68x70.rank)
  bcast_S_S8x34x103 : S_.BroadcastsInDim S8x34x103 (![] : Fin 0 → Fin S8x34x103.rank)

variable [Facts]

def fn_part1 {F : FTy → Type} [FloatOps F] (main_arg8 : FVec F S8x34x103 .f32) (main_arg10 : FVec F S8x34x103 .f32) (main_v2 : IVec S34x128x256 1) (main_v5 : IVec S34x128x256 1) (main_v8 : IVec S128x256 1) (main_v11 : IVec S128x256 1) (main_v16 : IVec S128x256 1) (main_v17 : FVec F S68x70 .f32) : IVec S34x128x256 1 × IVec S34x128x256 1 × IVec S128x256 1 × IVec S128x256 1 × IVec S128x256 1 × IVec S68x70 1 × IVec S8x34x103 1 × IVec S8x34x103 1 :=
  let main_cst_4 : FVec F S_ .f32 := constant S_ .f32 0x7F800000#32
  let main_v18 : FVec F S68x70 .f32 := broadcastInDim S68x70 ![] bcast_S_S68x70 main_cst_4
  let main_v19 : IVec S68x70 1 := cmpf .olt main_v17 main_v18
  let main_v20 : FVec F S8x34x103 .f32 := Host.absf main_arg8
  let main_cst_5 : FVec F S_ .f32 := constant S_ .f32 0x7F800000#32
  let main_v21 : FVec F S8x34x103 .f32 := broadcastInDim S8x34x103 ![] bcast_S_S8x34x103 main_cst_5
  let main_v22 : IVec S8x34x103 1 := cmpf .olt main_v20 main_v21
  let main_v23 : FVec F S8x34x103 .f32 := Host.absf main_arg10
  let main_cst_6 : FVec F S_ .f32 := constant S_ .f32 0x7F800000#32
  let main_v24 : FVec F S8x34x103 .f32 := broadcastInDim S8x34x103 ![] bcast_S_S8x34x103 main_cst_6
  let main_v25 : IVec S8x34x103 1 := cmpf .olt main_v23 main_v24
  (main_v2, main_v5, main_v8, main_v11, main_v16, main_v19, main_v22, main_v25)

def fn {F : FTy → Type} [FloatOps F] (main_arg0 : FVec F S34x128x256 .f32) (main_arg1 : FVec F S34x128x256 .f32) (main_arg2 : FVec F S128x256 .f32) (main_arg3 : FVec F S128x256 .f32) (main_arg4 : FVec F S34 .f32) (main_arg5 : IVec S128x256 32) (main_arg6 : FVec F S68x70 .f32) (main_arg7 : FVec F S68 .f32) (main_arg8 : FVec F S8x34x103 .f32) (main_arg9 : FVec F S8x34 .f32) (main_arg10 : FVec F S8x34x103 .f32) (main_arg11 : FVec F S8x34 .f32) : IVec S34x128x256 1 × IVec S34x128x256 1 × IVec S128x256 1 × IVec S128x256 1 × IVec S128x256 1 × IVec S68x70 1 × IVec S8x34x103 1 × IVec S8x34x103 1 :=
  let main_v0 : FVec F S34x128x256 .f32 := Host.absf main_arg0
  let main_cst : FVec F S_ .f32 := constant S_ .f32 0x7F800000#32
  let main_v1 : FVec F S34x128x256 .f32 := broadcastInDim S34x128x256 ![] bcast_S_S34x128x256 main_cst
  let main_v2 : IVec S34x128x256 1 := cmpf .olt main_v0 main_v1
  let main_v3 : FVec F S34x128x256 .f32 := Host.absf main_arg1
  let main_cst_0 : FVec F S_ .f32 := constant S_ .f32 0x7F800000#32
  let main_v4 : FVec F S34x128x256 .f32 := broadcastInDim S34x128x256 ![] bcast_S_S34x128x256 main_cst_0
  let main_v5 : IVec S34x128x256 1 := cmpf .olt main_v3 main_v4
  let main_v6 : FVec F S128x256 .f32 := Host.absf main_arg2
  let main_cst_1 : FVec F S_ .f32 := constant S_ .f32 0x7F800000#32
  let main_v7 : FVec F S128x256 .f32 := broadcastInDim S128x256 ![] bcast_S_S128x256 main_cst_1
  let main_v8 : IVec S128x256 1 := cmpf .olt main_v6 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c : IVec S_ 32 := constantI S_ 32 0#32
  let main_v12 : IVec S128x256 32 := broadcastInDim S128x256 ![] bcast_S_S128x256 main_c
  let main_v13 : IVec S128x256 1 := cmpi .sge main_arg5 main_v12
  let main_c_3 : IVec S_ 32 := constantI S_ 32 8#32
  let main_v14 : IVec S128x256 32 := broadcastInDim S128x256 ![] bcast_S_S128x256 main_c_3
  let main_v15 : IVec S128x256 1 := cmpi .slt main_arg5 main_v14
  let main_v16 : IVec S128x256 1 := andi main_v13 main_v15
  let main_v17 : FVec F S68x70 .f32 := Host.absf main_arg6
  fn_part1 (F := F) main_arg8 main_arg10 main_v2 main_v5 main_v8 main_v11 main_v16 main_v17
-- ==== Kernel.lean ====
abbrev S34x128x256 : Shape := ⟨3, ![34, 128, 256]⟩
abbrev S128x256 : Shape := ⟨2, ![128, 256]⟩
abbrev S34 : Shape := ⟨1, ![34]⟩
abbrev S68x70 : Shape := ⟨2, ![68, 70]⟩
abbrev S68 : Shape := ⟨1, ![68]⟩
abbrev S8x34x103 : Shape := ⟨3, ![8, 34, 103]⟩
abbrev S8x34 : Shape := ⟨2, ![8, 34]⟩
abbrev S1x68 : Shape := ⟨2, ![1, 68]⟩
abbrev S2x34x128x256 : Shape := ⟨4, ![2, 34, 128, 256]⟩
abbrev S34x32x256 : Shape := ⟨3, ![34, 32, 256]⟩
abbrev S32x256 : Shape := ⟨2, ![32, 256]⟩
abbrev S2x34x32x256 : Shape := ⟨4, ![2, 34, 32, 256]⟩
abbrev S576x80 : Shape := ⟨2, ![576, 80]⟩
abbrev S8x68x103 : Shape := ⟨3, ![8, 68, 103]⟩
abbrev S8x68 : Shape := ⟨2, ![8, 68]⟩
abbrev S8x68x33 : Shape := ⟨3, ![8, 68, 33]⟩
abbrev S15x70 : Shape := ⟨2, ![15, 70]⟩
abbrev S18x70 : Shape := ⟨2, ![18, 70]⟩
abbrev S33x70 : Shape := ⟨2, ![33, 70]⟩
abbrev S1x15 : Shape := ⟨2, ![1, 15]⟩
abbrev S1x18 : Shape := ⟨2, ![1, 18]⟩
abbrev S1x33 : Shape := ⟨2, ![1, 33]⟩
abbrev S8x68x34 : Shape := ⟨3, ![8, 68, 34]⟩
abbrev S8x68x1 : Shape := ⟨3, ![8, 68, 1]⟩
abbrev S8x68x70 : Shape := ⟨3, ![8, 68, 70]⟩
abbrev S544x33 : Shape := ⟨2, ![544, 33]⟩
abbrev S544x70 : Shape := ⟨2, ![544, 70]⟩
abbrev S1x68x70 : Shape := ⟨3, ![1, 68, 70]⟩
abbrev S1x1x33 : Shape := ⟨3, ![1, 1, 33]⟩
abbrev S1x68x34 : Shape := ⟨3, ![1, 68, 34]⟩
abbrev S68x34 : Shape := ⟨2, ![68, 34]⟩
abbrev S1x68x2 : Shape := ⟨3, ![1, 68, 2]⟩
abbrev S68x2 : Shape := ⟨2, ![68, 2]⟩
abbrev S68x1 : Shape := ⟨2, ![68, 1]⟩
abbrev S34x8192 : Shape := ⟨2, ![34, 8192]⟩
abbrev S6x8192 : Shape := ⟨2, ![6, 8192]⟩
abbrev S1x8192 : Shape := ⟨2, ![1, 8192]⟩
abbrev S3x8192 : Shape := ⟨2, ![3, 8192]⟩
abbrev S80x8192 : Shape := ⟨2, ![80, 8192]⟩
abbrev S576x8192 : Shape := ⟨2, ![576, 8192]⟩
abbrev S72x8192 : Shape := ⟨2, ![72, 8192]⟩
abbrev S68x8192 : Shape := ⟨2, ![68, 8192]⟩

abbrev nBuf : Space → Nat
  | .hbm => 14
  | .vmem => 19
  | .smem => 0
  | _ => 0

abbrev bufTy : (tb : Table) → Fin (tcTables nBuf tb) → BufTy
  | .hbm, ⟨0, _⟩ => ⟨S34x128x256, .f32⟩
  | .hbm, ⟨1, _⟩ => ⟨S34x128x256, .f32⟩
  | .hbm, ⟨2, _⟩ => ⟨S128x256, .f32⟩
  | .hbm, ⟨3, _⟩ => ⟨S128x256, .f32⟩
  | .hbm, ⟨4, _⟩ => ⟨S34, .f32⟩
  | .hbm, ⟨5, _⟩ => ⟨S128x256, .i32⟩
  | .hbm, ⟨6, _⟩ => ⟨S68x70, .f32⟩
  | .hbm, ⟨7, _⟩ => ⟨S68, .f32⟩
  | .hbm, ⟨8, _⟩ => ⟨S8x34x103, .f32⟩
  | .hbm, ⟨9, _⟩ => ⟨S8x34, .f32⟩
  | .hbm, ⟨10, _⟩ => ⟨S8x34x103, .f32⟩
  | .hbm, ⟨11, _⟩ => ⟨S8x34, .f32⟩
  | .hbm, ⟨12, _⟩ => ⟨S1x68, .f32⟩
  | .hbm, ⟨13, _⟩ => ⟨S2x34x128x256, .f32⟩
  | .local _ .vmem, ⟨0, _⟩ => ⟨S34x32x256, .f32⟩
  | .local _ .vmem, ⟨1, _⟩ => ⟨S34x32x256, .f32⟩
  | .local _ .vmem, ⟨2, _⟩ => ⟨S34x32x256, .f32⟩
  | .local _ .vmem, ⟨3, _⟩ => ⟨S34x32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x256, .i32⟩
  | .local _ .vmem, ⟨9, _⟩ => ⟨S32x256, .i32⟩
  | .local _ .vmem, ⟨10, _⟩ => ⟨S68x70, .f32⟩
  | .local _ .vmem, ⟨11, _⟩ => ⟨S1x68, .f32⟩
  | .local _ .vmem, ⟨12, _⟩ => ⟨S8x34x103, .f32⟩
  | .local _ .vmem, ⟨13, _⟩ => ⟨S8x34, .f32⟩
  | .local _ .vmem, ⟨14, _⟩ => ⟨S8x34x103, .f32⟩
  | .local _ .vmem, ⟨15, _⟩ => ⟨S8x34, .f32⟩
  | .local _ .vmem, ⟨16, _⟩ => ⟨S2x34x32x256, .f32⟩
  | .local _ .vmem, ⟨17, _⟩ => ⟨S2x34x32x256, .f32⟩
  | .local _ .vmem, ⟨18, _⟩ => ⟨S576x80, .f32⟩
  | _, _ => ⟨S34x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S34x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S34x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S68x70 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x68 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x34x103 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x34 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x34x103 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x34 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x34x32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S34x128x256 : Shape := ⟨3, ![34, 128, 256]⟩
abbrev S128x256 : Shape := ⟨2, ![128, 256]⟩
abbrev S34 : Shape := ⟨1, ![34]⟩
abbrev S68x70 : Shape := ⟨2, ![68, 70]⟩
abbrev S68 : Shape := ⟨1, ![68]⟩
abbrev S8x34x103 : Shape := ⟨3, ![8, 34, 103]⟩
abbrev S8x34 : Shape := ⟨2, ![8, 34]⟩
abbrev S34x1x1 : Shape := ⟨3, ![34, 1, 1]⟩
abbrev S_ : Shape := ⟨0, ![]⟩
abbrev S34x32768 : Shape := ⟨2, ![34, 32768]⟩
abbrev S1x32768 : Shape := ⟨2, ![1, 32768]⟩
abbrev S70x32768 : Shape := ⟨2, ![70, 32768]⟩
abbrev S32768x70 : Shape := ⟨2, ![32768, 70]⟩
abbrev S70x68 : Shape := ⟨2, ![70, 68]⟩
abbrev S32768x68 : Shape := ⟨2, ![32768, 68]⟩
abbrev S1x68 : Shape := ⟨2, ![1, 68]⟩
abbrev S32768x34 : Shape := ⟨2, ![32768, 34]⟩
abbrev S32768x15 : Shape := ⟨2, ![32768, 15]⟩
abbrev S32768x18 : Shape := ⟨2, ![32768, 18]⟩
abbrev S32768x1 : Shape := ⟨2, ![32768, 1]⟩
abbrev S32768x103 : Shape := ⟨2, ![32768, 103]⟩
abbrev S32768x8x34 : Shape := ⟨3, ![32768, 8, 34]⟩
abbrev S8x32768x34 : Shape := ⟨3, ![8, 32768, 34]⟩
abbrev S8x1x34 : Shape := ⟨3, ![8, 1, 34]⟩
abbrev S32768 : Shape := ⟨1, ![32768]⟩
abbrev S1x32768x1 : Shape := ⟨3, ![1, 32768, 1]⟩
abbrev S1x32768x34 : Shape := ⟨3, ![1, 32768, 34]⟩
abbrev S1x32768x34x1 : Shape := ⟨4, ![1, 32768, 34, 1]⟩
abbrev S1 : Shape := ⟨1, ![1]⟩
abbrev S1x1x1x1 : Shape := ⟨4, ![1, 1, 1, 1]⟩
abbrev S1x34x128x256 : Shape := ⟨4, ![1, 34, 128, 256]⟩
abbrev S2x34x128x256 : Shape := ⟨4, ![2, 34, 128, 256]⟩

abbrev nBuf : Space → Nat
  | .hbm => 114
  | .vmem => 0
  | .smem => 0
  | _ => 0

abbrev bufTy : (tb : Table) → Fin (tcTables nBuf tb) → BufTy
  | .hbm, ⟨0, _⟩ => ⟨S34x128x256, .f32⟩
  | .hbm, ⟨1, _⟩ => ⟨S34x128x256, .f32⟩
  | .hbm, ⟨2, _⟩ => ⟨S128x256, .f32⟩
  | .hbm, ⟨3, _⟩ => ⟨S128x256, .f32⟩
  | .hbm, ⟨4, _⟩ => ⟨S34, .f32⟩
  | .hbm, ⟨5, _⟩ => ⟨S128x256, .i32⟩
  | .hbm, ⟨6, _⟩ => ⟨S68x70, .f32⟩
  | .hbm, ⟨7, _⟩ => ⟨S68, .f32⟩
  | .hbm, ⟨8, _⟩ => ⟨S8x34x103, .f32⟩
  | .hbm, ⟨9, _⟩ => ⟨S8x34, .f32⟩
  | .hbm, ⟨10, _⟩ => ⟨S8x34x103, .f32⟩
  | .hbm, ⟨11, _⟩ => ⟨S8x34, .f32⟩
  | .hbm, ⟨12, _⟩ => ⟨S34x1x1, .f32⟩
  | .hbm, ⟨13, _⟩ => ⟨S34x128x256, .f32⟩
  | .hbm, ⟨14, _⟩ => ⟨S34x128x256, .f32⟩
  | .hbm, ⟨15, _⟩ => ⟨S_, .f32⟩
  | .hbm, ⟨16, _⟩ => ⟨S128x256, .f32⟩
  | .hbm, ⟨17, _⟩ => ⟨S_, .f32⟩
  | .hbm, ⟨18, _⟩ => ⟨S128x256, .f32⟩
  | .hbm, ⟨19, _⟩ => ⟨S128x256, .f32⟩
  | .hbm, ⟨20, _⟩ => ⟨S34x32768, .f32⟩
  | .hbm, ⟨21, _⟩ => ⟨S34x32768, .f32⟩
  | .hbm, ⟨22, _⟩ => ⟨S1x32768, .f32⟩
  | .hbm, ⟨23, _⟩ => ⟨S1x32768, .f32⟩
  | .hbm, ⟨24, _⟩ => ⟨S70x32768, .f32⟩
  | .hbm, ⟨25, _⟩ => ⟨S32768x70, .f32⟩
  | .hbm, ⟨26, _⟩ => ⟨S70x68, .f32⟩
  | .hbm, ⟨27, _⟩ => ⟨S32768x68, .f32⟩
  | .hbm, ⟨28, _⟩ => ⟨S1x68, .f32⟩
  | .hbm, ⟨29, _⟩ => ⟨S32768x68, .f32⟩
  | .hbm, ⟨30, _⟩ => ⟨S32768x68, .f32⟩
  | .hbm, ⟨31, _⟩ => ⟨S32768x34, .f32⟩
  | .hbm, ⟨32, _⟩ => ⟨S32768x34, .f32⟩
  | .hbm, ⟨33, _⟩ => ⟨S32768x15, .f32⟩
  | .hbm, ⟨34, _⟩ => ⟨S32768x18, .f32⟩
  | .hbm, ⟨35, _⟩ => ⟨S32768x1, .f32⟩
  | .hbm, ⟨36, _⟩ => ⟨S32768x34, .f32⟩
  | .hbm, ⟨37, _⟩ => ⟨S32768x34, .f32⟩
  | .hbm, ⟨38, _⟩ => ⟨S32768x1, .f32⟩
  | .hbm, ⟨39, _⟩ => ⟨S32768x103, .f32⟩
  | .hbm, ⟨40, _⟩ => ⟨S32768x8x34, .f32⟩
  | .hbm, ⟨41, _⟩ => ⟨S8x32768x34, .f32⟩
  | .hbm, ⟨42, _⟩ => ⟨S8x1x34, .f32⟩
  | .hbm, ⟨43, _⟩ => ⟨S8x32768x34, .f32⟩
  | .hbm, ⟨44, _⟩ => ⟨S8x32768x34, .f32⟩
  | .hbm, ⟨45, _⟩ => ⟨S32768x8x34, .f32⟩
  | .hbm, ⟨46, _⟩ => ⟨S8x32768x34, .f32⟩
  | .hbm, ⟨47, _⟩ => ⟨S8x1x34, .f32⟩
  | .hbm, ⟨48, _⟩ => ⟨S8x32768x34, .f32⟩
  | .hbm, ⟨49, _⟩ => ⟨S8x32768x34, .f32⟩
  | .hbm, ⟨50, _⟩ => ⟨S32768, .i32⟩
  | .hbm, ⟨51, _⟩ => ⟨S1x32768x1, .i32⟩
  | .hbm, ⟨52, _⟩ => ⟨S1x32768x34, .i32⟩
  | .hbm, ⟨53, _⟩ => ⟨S_, .i32⟩
  | .hbm, ⟨54, _⟩ => ⟨S1x32768x34, .i32⟩
  | .hbm, ⟨55, _⟩ => ⟨S1x32768x34, .i1⟩
  | .hbm, ⟨56, _⟩ => ⟨S_, .i32⟩
  | .hbm, ⟨57, _⟩ => ⟨S1x32768x34, .i32⟩
  | .hbm, ⟨58, _⟩ => ⟨S1x32768x34, .i32⟩
  | .hbm, ⟨59, _⟩ => ⟨S1x32768x34, .i32⟩
  | .hbm, ⟨60, _⟩ => ⟨S1x32768x34x1, .i32⟩
  | .hbm, ⟨61, _⟩ => ⟨S1, .i32⟩
  | .hbm, ⟨62, _⟩ => ⟨S_, .i32⟩
  | .hbm, ⟨63, _⟩ => ⟨S1x32768x34x1, .i32⟩
  | .hbm, ⟨64, _⟩ => ⟨S1x32768x34x1, .i1⟩
  | .hbm, ⟨65, _⟩ => ⟨S1x1x1x1, .i32⟩
  | .hbm, ⟨66, _⟩ => ⟨S1x32768x34x1, .i32⟩
  | .hbm, ⟨67, _⟩ => ⟨S1x32768x34x1, .i1⟩
  | .hbm, ⟨68, _⟩ => ⟨S1x32768x34x1, .i1⟩
  | .hbm, ⟨69, _⟩ => ⟨S_, .i1⟩
  | .hbm, ⟨70, _⟩ => ⟨S1x32768x34, .i1⟩
  | .hbm, ⟨71, _⟩ => ⟨S1x32768x34, .f32⟩
  | .hbm, ⟨72, _⟩ => ⟨S_, .f32⟩
  | .hbm, ⟨73, _⟩ => ⟨S1x32768x34, .f32⟩
  | .hbm, ⟨74, _⟩ => ⟨S1x32768x34, .f32⟩
  | .hbm, ⟨75, _⟩ => ⟨S32768x34, .f32⟩
  | .hbm, ⟨76, _⟩ => ⟨S_, .i32⟩
  | .hbm, ⟨77, _⟩ => ⟨S1x32768x34, .i32⟩
  | .hbm, ⟨78, _⟩ => ⟨S1x32768x34, .i1⟩
  | .hbm, ⟨79, _⟩ => ⟨S_, .i32⟩
  | .hbm, ⟨80, _⟩ => ⟨S1x32768x34, .i32⟩
  | .hbm, ⟨81, _⟩ => ⟨S1x32768x34, .i32⟩
  | .hbm, ⟨82, _⟩ => ⟨S1x32768x34, .i32⟩
  | .hbm, ⟨83, _⟩ => ⟨S1x32768x34x1, .i32⟩
  | .hbm, ⟨84, _⟩ => ⟨S1, .i32⟩
  | .hbm, ⟨85, _⟩ => ⟨S_, .i32⟩
  | .hbm, ⟨86, _⟩ => ⟨S1x32768x34x1, .i32⟩
  | .hbm, ⟨87, _⟩ => ⟨S1x32768x34x1, .i1⟩
  | .hbm, ⟨88, _⟩ => ⟨S1x1x1x1, .i32⟩
  | .hbm, ⟨89, _⟩ => ⟨S1x32768x34x1, .i32⟩
  | .hbm, ⟨90, _⟩ => ⟨S1x32768x34x1, .i1⟩
  | .hbm, ⟨91, _⟩ => ⟨S1x32768x34x1, .i1⟩
  | .hbm, ⟨92, _⟩ => ⟨S_, .i1⟩
  | .hbm, ⟨93, _⟩ => ⟨S1x32768x34, .i1⟩
  | .hbm, ⟨94, _⟩ => ⟨S1x32768x34, .f32⟩
  | .hbm, ⟨95, _⟩ => ⟨S_, .f32⟩
  | .hbm, ⟨96, _⟩ => ⟨S1x32768x34, .f32⟩
  | .hbm, ⟨97, _⟩ => ⟨S1x32768x34, .f32⟩
  | .hbm, ⟨98, _⟩ => ⟨S32768x34, .f32⟩
  | .hbm, ⟨99, _⟩ => ⟨S_, .f32⟩
  | .hbm, ⟨100, _⟩ => ⟨S32768x34, .f32⟩
  | .hbm, ⟨101, _⟩ => ⟨S32768x34, .f32⟩
  | .hbm, ⟨102, _⟩ => ⟨S32768x34, .f32⟩
  | .hbm, ⟨103, _⟩ => ⟨S_, .f32⟩
  | .hbm, ⟨104, _⟩ => ⟨S32768x34, .f32⟩
  | .hbm, ⟨105, _⟩ => ⟨S32768x34, .f32⟩
  | .hbm, ⟨106, _⟩ => ⟨S32768x34, .f32⟩
  | .hbm, ⟨107, _⟩ => ⟨S34x32768, .f32⟩
  | .hbm, ⟨108, _⟩ => ⟨S34x128x256, .f32⟩
  | .hbm, ⟨109, _⟩ => ⟨S34x32768, .f32⟩
  | .hbm, ⟨110, _⟩ => ⟨S34x128x256, .f32⟩
  | .hbm, ⟨111, _⟩ => ⟨S1x34x128x256, .f32⟩
  | .hbm, ⟨112, _⟩ => ⟨S1x34x128x256, .f32⟩
  | .hbm, ⟨113, _⟩ => ⟨S2x34x128x256, .f32⟩
  | _, _ => ⟨S34x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_c : Ref sig .tc := ⟨.hbm, 53, rfl⟩
abbrev main_call0_v0 : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_c_1 : Ref sig .tc := ⟨.hbm, 61, rfl⟩
abbrev main_call0_c_2 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_3 : Ref sig .tc := ⟨.hbm, 69, rfl⟩
abbrev main_call0_v12 : Ref sig .tc := ⟨.hbm, 70, rfl⟩
abbrev main_call0_v13 : Ref sig .tc := ⟨.hbm, 71, rfl⟩
abbrev main_call0_cst : Ref sig .tc := ⟨.hbm, 72, rfl⟩
abbrev main_call0_v14 : Ref sig .tc := ⟨.hbm, 73, rfl⟩
abbrev main_v39 : Ref sig .tc := ⟨.hbm, 74, rfl⟩
abbrev main_v40 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_cst : Ref sig .tc := ⟨.hbm, 95, rfl⟩
abbrev main_call1_v14 : Ref sig .tc := ⟨.hbm, 96, rfl⟩
abbrev main_v41 : Ref sig .tc := ⟨.hbm, 97, rfl⟩
abbrev main_v42 : Ref sig .tc := ⟨.hbm, 98, rfl⟩
abbrev main_cst_1 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_2 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩

abbrev nD : Nat := 1
abbrev τ : Topo := Topo.v7x

variable {F : FTy → Type} [FloatOps F]
-- ==== Proof.Bounds.lean ====
/- What the precondition says of the arrays at an index: finite numbers, and the indices of experts. -/
module

public import proofs.«01_k».proof.Proof.Gen.Pre_finite_columns_and_experts_in_range
public import Idealize.ShloMosaic.Lib.Pointwise

@[expose] public section

noncomputable section

namespace Cert.Proof

open Idealize.ShloMosaic Idealize.ShloMosaic.TcCoe Idealize.SL.Sem Idealize.ShloMosaic.Tactic
open Cert.Pre_finite_columns_and_experts_in_range

/-- The pattern of the positive infinity. -/
theorem infinity_top : Ideal.ofBits .f32 0x7F800000#32 = (⊤ : EReal) := by
  simp [Ideal.ofBits, Ideal.ieee]

/-- A magnitude below infinity is a real number's. -/
theorem real_of_below (x : EReal) (h : Ideal.cmp .olt (max x (-x)) (Ideal.ofBits .f32 0x7F800000#32) = 1#1) : ∃ r : ℝ, x = r := by
  rw [infinity_top] at h
  have h' : max x (-x) < ⊤ := by
    by_contra hn
    simp [Ideal.cmp, hn] at h
  induction x using EReal.rec with
  | bot => simp at h'
  | top => simp at h'
  | coe r => exact ⟨r, rfl⟩

/-- A word from zero to seven is the word of an expert. -/
theorem expert_of_range (b : BitVec 32) (h : IntOp.andi (IntOp.cmpi .sge b 0#32) (IntOp.cmpi .slt b 8#32) = 1#1) : ∃ e : Fin 8, b = BitVec.ofNat 32 e.val := by
  have hb : b.toNat < 8 := by
    have key : ∀ p q : Bool, BitVec.ofBool p &&& BitVec.ofBool q = 1#1 → p = true ∧ q = true := by decide
    obtain ⟨h1, h2⟩ := key _ _ h
    have h3 := BitVec.sle_iff_toInt_le.mp h1
    have h4 := BitVec.slt_iff_toInt_lt.mp h2
    simp only [BitVec.toInt_eq_toNat_cond, BitVec.toNat_ofNat] at h3 h4
    omega
  exact ⟨⟨b.toNat, hb⟩, by simp⟩

variable (x0 : FVec Ideal S34x128x256 .f32) (x1 : FVec Ideal S34x128x256 .f32) (x2 : FVec Ideal S128x256 .f32) (x3 : FVec Ideal S128x256 .f32) (x4 : FVec Ideal S34 .f32) (x5 : IVec S128x256 32)
  (x6 : FVec Ideal S68x70 .f32) (x7 : FVec Ideal S68 .f32) (x8 : FVec Ideal S8x34x103 .f32) (x9 : FVec Ideal S8x34 .f32) (x10 : FVec Ideal S8x34x103 .f32) (x11 : FVec Ideal S8x34 .f32)

theorem real0 (h : (fn (F := Ideal) x0 x1 x2 x3 x4 x5 x6 x7 x8 x9 x10 x11).1 = fun _ => 1#1) (i : S34x128x256.Idx) : ∃ r : ℝ, x0 i = r :=
  real_of_below _ (congrFun h i)
theorem real1 (h : (fn (F := Ideal) x0 x1 x2 x3 x4 x5 x6 x7 x8 x9 x10 x11).2.1 = fun _ => 1#1) (i : S34x128x256.Idx) : ∃ r : ℝ, x1 i = r :=
  real_of_below _ (congrFun h i)
theorem real2 (h : (fn (F := Ideal) x0 x1 x2 x3 x4 x5 x6 x7 x8 x9 x10 x11).2.2.1 = fun _ => 1#1) (i : S128x256.Idx) : ∃ r : ℝ, x2 i = r :=
  real_of_below _ (congrFun h i)
theorem real3 (h : (fn (F := Ideal) x0 x1 x2 x3 x4 x5 x6 x7 x8 x9 x10 x11).2.2.2.1 = fun _ => 1#1) (i : S128x256.Idx) : ∃ r : ℝ, x3 i = r :=
  real_of_below _ (congrFun h i)
theorem expert5 (h : (fn (F := Ideal) x0 x1 x2 x3 x4 x5 x6 x7 x8 x9 x10 x11).2.2.2.2.1 = fun _ => 1#1) (i : S128x256.Idx) : ∃ e : Fin 8, x5 i = BitVec.ofNat 32 e.val :=
  expert_of_range _ (congrFun h i)
theorem real6 (h : (fn (F := Ideal) x0 x1 x2 x3 x4 x5 x6 x7 x8 x9 x10 x11).2.2.2.2.2.1 = fun _ => 1#1) (i : S68x70.Idx) : ∃ r : ℝ, x6 i = r :=
  real_of_below _ (congrFun h i)
theorem real8 (h : (fn (F := Ideal) x0 x1 x2 x3 x4 x5 x6 x7 x8 x9 x10 x11).2.2.2.2.2.2.1 = fun _ => 1#1) (i : S8x34x103.Idx) : ∃ r : ℝ, x8 i = r :=
  real_of_below _ (congrFun h i)
theorem real10 (h : (fn (F := Ideal) x0 x1 x2 x3 x4 x5 x6 x7 x8 x9 x10 x11).2.2.2.2.2.2.2 = fun _ => 1#1) (i : S8x34x103.Idx) : ∃ r : ℝ, x10 i = r :=
  real_of_below _ (congrFun h i)

end Cert.Proof
end
-- ==== Proof.Weights.lean ====
/- The scratch matrix that the first grid point fills: eight stacked blocks of 72 rows, one per expert, each row holding the
   expert's folded weights of the 70 inputs and its folded offset, zero elsewhere. -/
module

public import proofs.«01_k».proof.Proof.Gen.KernelIdeal.Value
public import Idealize.ShloMosaic.Lib.Pointwise
public import Idealize.ShloMosaic.Lib.Tactic

@[expose] public section

set_option maxRecDepth 16384

noncomputable section

namespace Cert.Proof

open Cert.KernelIdeal Cert.KernelIdeal.Gen Idealize.ShloMosaic Idealize.ShloMosaic.TcCoe Idealize.SL.Sem Idealize.ShloMosaic.Tactic

/-- The stacked matrix of the weights `R` (expert, output row, input) and the offsets `g` (expert, output row). Row
    `72 e + o` with `o < 68` belongs to expert `e` and output row `o`; columns 0–33 and 40–75 hold the inputs in order,
    column 76 the offset. -/
def stacked (R : FVec Ideal S8x68x70 .f32) (g : FVec Ideal S8x68 .f32) : FVec Ideal S576x80 .f32 := fun y =>
  if ho : (y 0).val % 72 < 68 then
    if h1 : (y 1).val < 34 then R (ix3 (⟨(y 0).val / 72, by have := (y 0).isLt; simp at this; omega⟩ : Fin 8) (⟨(y 0).val % 72, ho⟩ : Fin 68) (⟨(y 1).val, by omega⟩ : Fin 70))
    else if (y 1).val < 40 then 0
    else if h2 : (y 1).val < 76 then R (ix3 (⟨(y 0).val / 72, by have := (y 0).isLt; simp at this; omega⟩ : Fin 8) (⟨(y 0).val % 72, ho⟩ : Fin 68) (⟨(y 1).val - 6, by omega⟩ : Fin 70))
    else if (y 1).val < 77 then g (ix2 (⟨(y 0).val / 72, by have := (y 0).isLt; simp at this; omega⟩ : Fin 8) (⟨(y 0).val % 72, ho⟩ : Fin 68))
    else 0
  else 0

/-- One store of a rectangle that agrees with `G`, over earlier stores that agree with it outside the rectangle. -/
theorem canon_store (G : FVec Ideal S576x80 .f32) (r : Fin 576) (k : Fin 80) (a b n w : ℕ)
    (inb : ∀ i, (![a, b] : Fin 2 → ℕ) i + (![n, w] : Fin 2 → ℕ) i ≤ S576x80.size i)
    (P : (Rect.unit (s := S576x80) ![a, b] ![n, w] inb).shape.Idx → Elt Ideal .f32) (L : List (View.Piece (Elt Ideal) S576x80 .f32))
    (hp : ∀ (x : Fin n) (z : Fin w) (hx : a + x.val < 576) (hz : b + z.val < 80),
      P (ix2 x z) = G (ix2 (⟨a + x.val, hx⟩ : Fin 576) (⟨b + z.val, hz⟩ : Fin 80)))
    (hL : ¬(a ≤ r.val ∧ r.val < a + n ∧ b ≤ k.val ∧ k.val < b + w) → View.canon L (ix2 r k) = G (ix2 r k)) :
    View.canon ((⟨Rect.unit (s := S576x80) ![a, b] ![n, w] inb, P⟩ : View.Piece (Elt Ideal) S576x80 .f32) :: L) (ix2 r k) = G (ix2 r k) := by
  by_cases hm : a ≤ r.val ∧ r.val < a + n ∧ b ≤ k.val ∧ k.val < b + w
  · obtain ⟨h1, h2, h3, h4⟩ := hm
    have e : ix2 r k = (Rect.unit (s := S576x80) ![a, b] ![n, w] inb).emb (ix2 (⟨r.val - a, by omega⟩ : Fin n) (⟨k.val - b, by omega⟩ : Fin w)) := by
      funext i
      apply Fin.ext
      fin_cases i
      · show r.val = a + 1 * (r.val - a); omega
      · show k.val = b + 1 * (k.val - b); omega
    rw [e, View.canon_cons_emb, hp _ _ (by simp only; omega) (by simp only; omega), ← e]
    congr 1
    congr 1
    · apply Fin.ext; simp only; omega
    · apply Fin.ext; simp only; omega
  · rw [View.canon_cons_of_not_mem _ _ (fun h => hm ?_)]
    · exact hL hm
    · have h' := (Rect.mem_set_unit (inb := inb)).mp h
      have h0 := h' 0
      have h1 := h' 1
      exact ⟨h0.1, h0.2, h1.1, h1.2⟩

variable (R : FVec Ideal S8x68x70 .f32) (g : FVec Ideal S8x68 .f32)

theorem stacked_weight (e : Fin 8) (o : Fin 68) (kk : Fin 70) (r : Fin 576) (q : Fin 80) (hr : r.val = 72 * e.val + o.val)
    (hq : kk.val < 34 ∧ q.val = kk.val ∨ 34 ≤ kk.val ∧ q.val = kk.val + 6) : stacked R g (ix2 r q) = R (ix3 e o kk) := by
  have he := e.isLt
  have ho := o.isLt
  have hk := kk.isLt
  have e1 : (⟨r.val / 72, by omega⟩ : Fin 8) = e := Fin.ext (by simp only; omega)
  have e2 : (⟨r.val % 72, by omega⟩ : Fin 68) = o := Fin.ext (by simp only; omega)
  unfold stacked
  rw [dif_pos (show ((ix2 r q : S576x80.Idx) 0).val % 72 < 68 by show r.val % 72 < 68; omega)]
  rcases hq with ⟨h1, h2⟩ | ⟨h1, h2⟩
  · rw [dif_pos (show ((ix2 r q : S576x80.Idx) 1).val < 34 by show q.val < 34; omega)]
    have e3 : (⟨q.val, by omega⟩ : Fin 70) = kk := Fin.ext (by simp only; omega)
    show R (ix3 (⟨r.val / 72, _⟩ : Fin 8) (⟨r.val % 72, _⟩ : Fin 68) (⟨q.val, _⟩ : Fin 70)) = _
    rw [e1, e2, e3]
  · rw [dif_neg (show ¬((ix2 r q : S576x80.Idx) 1).val < 34 by show ¬q.val < 34; omega),
      if_neg (show ¬((ix2 r q : S576x80.Idx) 1).val < 40 by show ¬q.val < 40; omega),
      dif_pos (show ((ix2 r q : S576x80.Idx) 1).val < 76 by show q.val < 76; omega)]
    have e3 : (⟨q.val - 6, by omega⟩ : Fin 70) = kk := Fin.ext (by simp only; omega)
    show R (ix3 (⟨r.val / 72, _⟩ : Fin 8) (⟨r.val % 72, _⟩ : Fin 68) (⟨q.val - 6, _⟩ : Fin 70)) = _
    rw [e1, e2, e3]

theorem stacked_offset (e : Fin 8) (o : Fin 68) (r : Fin 576) (q : Fin 80) (hr : r.val = 72 * e.val + o.val)
    (hq : q.val = 76) : stacked R g (ix2 r q) = g (ix2 e o) := by
  have he := e.isLt
  have ho := o.isLt
  have e1 : (⟨r.val / 72, by omega⟩ : Fin 8) = e := Fin.ext (by simp only; omega)
  have e2 : (⟨r.val % 72, by omega⟩ : Fin 68) = o := Fin.ext (by simp only; omega)
  unfold stacked
  rw [dif_pos (show ((ix2 r q : S576x80.Idx) 0).val % 72 < 68 by show r.val % 72 < 68; omega),
    dif_neg (show ¬((ix2 r q : S576x80.Idx) 1).val < 34 by show ¬q.val < 34; omega),
    if_neg (show ¬((ix2 r q : S576x80.Idx) 1).val < 40 by show ¬q.val < 40; omega),
    dif_neg (show ¬((ix2 r q : S576x80.Idx) 1).val < 76 by show ¬q.val < 76; omega),
    if_pos (show ((ix2 r q : S576x80.Idx) 1).val < 77 by show q.val < 77; omega)]
  show g (ix2 (⟨r.val / 72, _⟩ : Fin 8) (⟨r.val % 72, _⟩ : Fin 68)) = _
  rw [e1, e2]

theorem stacked_zero (r : Fin 576) (q : Fin 80) (h : ¬(r.val % 72 < 68 ∧ (q.val < 34 ∨ 40 ≤ q.val) ∧ q.val < 77)) :
    stacked R g (ix2 r q) = 0 := by
  unfold stacked
  by_cases ho : r.val % 72 < 68
  · rw [dif_pos (show ((ix2 r q : S576x80.Idx) 0).val % 72 < 68 from ho),
      dif_neg (show ¬((ix2 r q : S576x80.Idx) 1).val < 34 by show ¬q.val < 34; omega)]
    by_cases h4 : q.val < 40
    · rw [if_pos (show ((ix2 r q : S576x80.Idx) 1).val < 40 from h4)]
    · rw [if_neg (show ¬((ix2 r q : S576x80.Idx) 1).val < 40 from h4),
        dif_neg (show ¬((ix2 r q : S576x80.Idx) 1).val < 76 by show ¬q.val < 76; omega),
        if_neg (show ¬((ix2 r q : S576x80.Idx) 1).val < 77 by show ¬q.val < 77; omega)]
  · rw [dif_neg (show ¬((ix2 r q : S576x80.Idx) 0).val % 72 < 68 from ho)]

/-- What the first point leaves in the scratch: the folded weights and offsets, stacked. -/
theorem soutA (c : Dev nD) (t : Fin cfg0.N) (hc0 : cond0_0 (grid0.coords t))
    (x0 : Vec Ideal S34x32x256 .f32) (x1 : Vec Ideal S34x32x256 .f32) (x2 : Vec Ideal S32x256 .f32) (x3 : Vec Ideal S32x256 .f32) (x4 : Vec Ideal S32x256 .i32) (x5 : Vec Ideal S68x70 .f32) (x6 : Vec Ideal S1x68 .f32) (x7 : Vec Ideal S8x34x103 .f32) (x8 : Vec Ideal S8x34 .f32) (x9 : Vec Ideal S8x34x103 .f32) (x10 : Vec Ideal S8x34 .f32) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 x0 x1 x2 x3 x4 x5 x6 x7 x8 x9 x10 = stacked (k0_pay4 x5 x7 x9) (k0_pay5 x6 x7 x9 x8 x10) := by
  have z2 : (![0, 0] : Fin 2 → ℕ) = fun _ => 0 := by funext i; fin_cases i <;> rfl
  have z3 : (![0, 0, 0] : Fin 3 → ℕ) = fun _ => 0 := by funext i; fin_cases i <;> rfl
  unfold sout0_A_0
  rw [View.read_writes_eq_canon _ _ _ (fun _ => scover0_A_0 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  rw [show View.ld x5 (Rect.unit (s := S68x70) ![0, 0] ![68, 70] inb_S68x70_S68x70_0_0) = x5 from View.ld_unit_zero (S := S68x70) z2 _ _,
    show View.ld x6 (Rect.unit (s := S1x68) ![0, 0] ![1, 68] inb_S1x68_S1x68_0_0) = x6 from View.ld_unit_zero (S := S1x68) z2 _ _,
    show View.ld x7 (Rect.unit (s := S8x34x103) ![0, 0, 0] ![8, 34, 103] inb_S8x34x103_S8x34x103_0_0_0) = x7 from View.ld_unit_zero (S := S8x34x103) z3 _ _,
    show View.ld x9 (Rect.unit (s := S8x34x103) ![0, 0, 0] ![8, 34, 103] inb_S8x34x103_S8x34x103_0_0_0) = x9 from View.ld_unit_zero (S := S8x34x103) z3 _ _,
    show View.ld x8 (Rect.unit (s := S8x34) ![0, 0] ![8, 34] inb_S8x34_S8x34_0_0) = x8 from View.ld_unit_zero (S := S8x34) z2 _ _,
    show View.ld x10 (Rect.unit (s := S8x34) ![0, 0] ![8, 34] inb_S8x34_S8x34_0_0) = x10 from View.ld_unit_zero (S := S8x34) z2 _ _]
  generalize k0_pay4 x5 x7 x9 = R
  generalize k0_pay5 x6 x7 x9 x8 x10 = g
  funext y
  obtain ⟨r, k, rfl⟩ : ∃ (r : Fin 576) (k : Fin 80), y = ix2 r k := ⟨y 0, y 1, eq_ix2 y⟩
  iterate 32 (refine canon_store _ r k _ _ _ _ _ _ _ ?_ (fun h => ?_); rotate_left)
  on_goal 1 =>
    have hr := r.isLt
    have hk := k.isLt
    rw [show View.canon [(⟨Rect.unit (s := S576x80) ![0, 0] ![576, 80] inb_S576x80_S576x80_0_0, shapeCast S576x80 (k0_pay6 (F := Ideal)) shapeCasts_S576x80_S576x80⟩ : View.Piece (Elt Ideal) S576x80 .f32)] (ix2 r k) = 0 from by
      rw [View.canon_unit_zero (S := S576x80) z2]
      pointwise [k0_pay6]]
    by_cases hz : r.val % 72 < 68 ∧ (k.val < 34 ∨ 40 ≤ k.val) ∧ k.val < 77
    · exfalso
      rename_i h1 h2 h3 h4 h5 h6 h7 h8 h9 h10 h11 h12 h13 h14 h15 h16 h17 h18 h19 h20 h21 h22 h23 h24 h25 h26 h27 h28 h29 h30 h31
      have he : r.val / 72 = 0 ∨ r.val / 72 = 1 ∨ r.val / 72 = 2 ∨ r.val / 72 = 3 ∨ r.val / 72 = 4 ∨ r.val / 72 = 5 ∨ r.val / 72 = 6 ∨ r.val / 72 = 7 := by
        clear h1 h2 h3 h4 h5 h6 h7 h8 h9 h10 h11 h12 h13 h14 h15 h16 h17 h18 h19 h20 h21 h22 h23 h24 h25 h26 h27 h28 h29 h30 h31 h
        omega
      rcases he with he | he | he | he | he | he | he | he
      · clear h1 h2 h3 h4 h5 h6 h7 h8 h9 h10 h11 h12 h13 h14 h15 h16 h17 h18 h19 h20 h21 h22 h23 h24 h25 h26 h27 h28
        omega
      · clear h1 h2 h3 h4 h5 h6 h7 h8 h9 h10 h11 h12 h13 h14 h15 h16 h17 h18 h19 h20 h21 h22 h23 h24 h29 h30 h31 h
        omega
      · clear h1 h2 h3 h4 h5 h6 h7 h8 h9 h10 h11 h12 h13 h14 h15 h16 h17 h18 h19 h20 h25 h26 h27 h28 h29 h30 h31 h
        omega
      · clear h1 h2 h3 h4 h5 h6 h7 h8 h9 h10 h11 h12 h13 h14 h15 h16 h21 h22 h23 h24 h25 h26 h27 h28 h29 h30 h31 h
        omega
      · clear h1 h2 h3 h4 h5 h6 h7 h8 h9 h10 h11 h12 h17 h18 h19 h20 h21 h22 h23 h24 h25 h26 h27 h28 h29 h30 h31 h
        omega
      · clear h1 h2 h3 h4 h5 h6 h7 h8 h13 h14 h15 h16 h17 h18 h19 h20 h21 h22 h23 h24 h25 h26 h27 h28 h29 h30 h31 h
        omega
      · clear h1 h2 h3 h4 h9 h10 h11 h12 h13 h14 h15 h16 h17 h18 h19 h20 h21 h22 h23 h24 h25 h26 h27 h28 h29 h30 h31 h
        omega
      · clear h5 h6 h7 h8 h9 h10 h11 h12 h13 h14 h15 h16 h17 h18 h19 h20 h21 h22 h23 h24 h25 h26 h27 h28 h29 h30 h31 h
        omega
    · exact (stacked_zero R g r k hz).symm
  all_goals
    intro x z hx hz
    unfold_payloads
    pointwise
    first
    | exact (stacked_weight R g _ _ _ _ _ (by simp; try omega) (by simp; try omega)).symm
    | exact (stacked_offset R g _ _ _ _ (by simp; try omega) (by simp)).symm

end Cert.Proof
end
-- ==== Proof.Block.lean ====
/- What one grid point stores in its output block: of the eight products of the stacked matrix with the point's inputs, at
   each column the rows of the expert that the column's index names. -/
module

public import proofs.«01_k».proof.Proof.Weights

@[expose] public section

set_option maxRecDepth 16384

noncomputable section

namespace Cert.Proof

open Cert.KernelIdeal Cert.KernelIdeal.Gen Idealize.ShloMosaic Idealize.ShloMosaic.TcCoe Idealize.SL.Sem Idealize.ShloMosaic.Tactic

/-- The output block of a point: inputs `x0`–`x3`, expert indices `x4`, stacked matrix `s`. -/
def block (x0 x1 : Vec Ideal S34x32x256 .f32) (x2 x3 : Vec Ideal S32x256 .f32) (x4 : Vec Ideal S32x256 .i32) (s : Vec Ideal S576x80 .f32) : Vec Ideal S2x34x32x256 .f32 :=
  k0_pay1 (k0_pay43 x0 x1 x2 x3 s) (k0_pay45 (F := Ideal) x4) (k0_pay46 (F := Ideal) x4) (k0_pay47 (F := Ideal) x4) (k0_pay48 x0 x1 x2 x3 s)

theorem outB (c : Dev nD) (t : Fin cfg0.N) (hc0 : ¬cond0_0 (grid0.coords t))
    (x0 : Vec Ideal S34x32x256 .f32) (x1 : Vec Ideal S34x32x256 .f32) (x2 : Vec Ideal S32x256 .f32) (x3 : Vec Ideal S32x256 .f32) (x4 : Vec Ideal S32x256 .i32) (x5 : Vec Ideal S68x70 .f32) (x6 : Vec Ideal S1x68 .f32) (x7 : Vec Ideal S8x34x103 .f32) (x8 : Vec Ideal S8x34 .f32) (x9 : Vec Ideal S8x34x103 .f32) (x10 : Vec Ideal S8x34 .f32) (s : Vec Ideal S576x80 .f32) :
    out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 x0 x1 x2 x3 x4 x5 x6 x7 x8 x9 x10 s = block x0 x1 x2 x3 x4 s := by
  have z2 : (![0, 0] : Fin 2 → ℕ) = fun _ => 0 := by funext i; fin_cases i <;> rfl
  have z3 : (![0, 0, 0] : Fin 3 → ℕ) = fun _ => 0 := by funext i; fin_cases i <;> rfl
  have z4 : (![0, 0, 0, 0] : Fin 4 → ℕ) = fun _ => 0 := by funext i; fin_cases i <;> rfl
  unfold out0_B_11
  rw [View.read_writes_eq_canon _ _ _ (fun _ => cover0_B_11 ..)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (Memref.isWhole_whole _).read_unread]
  rw [View.canon_unit_zero (S := S2x34x32x256) z4,
    show View.ld x0 (Rect.unit (s := S34x32x256) ![0, 0, 0] ![34, 32, 256] inb_S34x32x256_S34x32x256_0_0_0) = x0 from View.ld_unit_zero (S := S34x32x256) z3 _ _,
    show View.ld x1 (Rect.unit (s := S34x32x256) ![0, 0, 0] ![34, 32, 256] inb_S34x32x256_S34x32x256_0_0_0) = x1 from View.ld_unit_zero (S := S34x32x256) z3 _ _,
    show View.ld x2 (Rect.unit (s := S32x256) ![0, 0] ![32, 256] inb_S32x256_S32x256_0_0) = x2 from View.ld_unit_zero (S := S32x256) z2 _ _,
    show View.ld x3 (Rect.unit (s := S32x256) ![0, 0] ![32, 256] inb_S32x256_S32x256_0_0) = x3 from View.ld_unit_zero (S := S32x256) z2 _ _,
    show View.ld x4 (Rect.unit (s := S32x256) ![0, 0] ![32, 256] inb_S32x256_S32x256_0_0) = x4 from View.ld_unit_zero (S := S32x256) z2 _ _,
    show View.ld s (Rect.unit (s := S576x80) ![0, 0] ![576, 80] inb_S576x80_S576x80_0_0) = s from View.ld_unit_zero (S := S576x80) z2 _ _]
  rfl

theorem outA (c : Dev nD) (t : Fin cfg0.N) (hc0 : cond0_0 (grid0.coords t))
    (x0 : Vec Ideal S34x32x256 .f32) (x1 : Vec Ideal S34x32x256 .f32) (x2 : Vec Ideal S32x256 .f32) (x3 : Vec Ideal S32x256 .f32) (x4 : Vec Ideal S32x256 .i32) (x5 : Vec Ideal S68x70 .f32) (x6 : Vec Ideal S1x68 .f32) (x7 : Vec Ideal S8x34x103 .f32) (x8 : Vec Ideal S8x34 .f32) (x9 : Vec Ideal S8x34x103 .f32) (x10 : Vec Ideal S8x34 .f32) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 x0 x1 x2 x3 x4 x5 x6 x7 x8 x9 x10 =
      block x0 x1 x2 x3 x4 (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 x0 x1 x2 x3 x4 x5 x6 x7 x8 x9 x10) := by
  have z2 : (![0, 0] : Fin 2 → ℕ) = fun _ => 0 := by funext i; fin_cases i <;> rfl
  have z3 : (![0, 0, 0] : Fin 3 → ℕ) = fun _ => 0 := by funext i; fin_cases i <;> rfl
  have z4 : (![0, 0, 0, 0] : Fin 4 → ℕ) = fun _ => 0 := by funext i; fin_cases i <;> rfl
  unfold out0_A_11 sout0_A_0
  rw [View.read_writes_eq_canon _ _ _ (fun _ => cover0_A_11 ..), View.read_writes_eq_canon _ _ _ (fun _ => scover0_A_0 ..)]
  unfold kernelRun0_A
  dsimp only
  unfold kernelRun0_A.sl.r_2 kernelRun0_A.sl.r_3 kernelRun0_A.sl.r_4 kernelRun0_A.sl.r_5 kernelRun0_A.sl.r_6 kernelRun0_A.sl.v15
  have hcov := scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc0 x0 x1 x2 x3 x4 x5 x6 x7 x8 x9 x10
  unfold kernelRun0_A at hcov
  dsimp only at hcov
  simp only [View.readAt_eq_ld, (hs0_0 t).read_unread, (hs0_1 t).read_unread, (hs0_2 t).read_unread, (hs0_3 t).read_unread, (hs0_4 t).read_unread]
  rw [View.canon_unit_zero (S := S2x34x32x256) z4, View.readCov_eq_canon_ld _ _ _ hcov,
    show View.ld x0 (Rect.unit (s := S34x32x256) ![0, 0, 0] S34x32x256.size inb_S34x32x256_S34x32x256_0_0_0) = x0 from View.ld_unit_zero (S := S34x32x256) z3 _ _,
    show View.ld x1 (Rect.unit (s := S34x32x256) ![0, 0, 0] S34x32x256.size inb_S34x32x256_S34x32x256_0_0_0) = x1 from View.ld_unit_zero (S := S34x32x256) z3 _ _,
    show View.ld x2 (Rect.unit (s := S32x256) ![0, 0] S32x256.size inb_S32x256_S32x256_0_0) = x2 from View.ld_unit_zero (S := S32x256) z2 _ _,
    show View.ld x3 (Rect.unit (s := S32x256) ![0, 0] S32x256.size inb_S32x256_S32x256_0_0) = x3 from View.ld_unit_zero (S := S32x256) z2 _ _,
    show View.ld x4 (Rect.unit (s := S32x256) ![0, 0] S32x256.size inb_S32x256_S32x256_0_0) = x4 from View.ld_unit_zero (S := S32x256) z2 _ _,
    View.ld_unit_zero (S := S576x80) z2]
  rfl
end Cert.Proof
end
-- ==== Proof.Fold.lean ====
/- What the points leave: the first fills the scratch with the stacked folded weights, and every point writes the block of
   its own input blocks with that scratch. -/
module

public import proofs.«01_k».proof.Proof.Block
public import proofs.«01_k».proof.Proof.Weights
public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384

noncomputable section

namespace Cert.Proof

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ) (c : Dev nD)

/-- Which block of its array each input window takes at a point. -/
theorem places : ∀ t : Fin cfg0.N, win0_0.index t = ![0, t.val, 0] ∧ win0_1.index t = ![0, t.val, 0] ∧ win0_2.index t = ![t.val, 0] ∧
    win0_3.index t = ![t.val, 0] ∧ win0_4.index t = ![t.val, 0] ∧ win0_5.index t = ![0, 0] ∧ win0_6.index t = ![0, 0] ∧ win0_7.index t = ![0, 0, 0] ∧
    win0_8.index t = ![0, 0] ∧ win0_9.index t = ![0, 0, 0] ∧ win0_10.index t = ![0, 0] :=
  (by decide +kernel : ∀ t : Fin grid0.N, _)

theorem block0_at (t : Fin cfg0.N) (k : Fin 34) (r : Fin 32) (w : Fin 256) (r' : Fin 128) (hr : r'.val = 32 * t.val + r.val) :
    iblk m c 0 t (ix3 k r w) = m ((c : Thread nD τ).loc main_arg0) (ix3 k r' w) := by
  blk_ext! [iblk, V, places t]

theorem block1_at (t : Fin cfg0.N) (k : Fin 34) (r : Fin 32) (w : Fin 256) (r' : Fin 128) (hr : r'.val = 32 * t.val + r.val) :
    iblk m c 1 t (ix3 k r w) = m ((c : Thread nD τ).loc main_arg1) (ix3 k r' w) := by
  blk_ext! [iblk, V, places t]

theorem block2_at (t : Fin cfg0.N) (r : Fin 32) (w : Fin 256) (r' : Fin 128) (hr : r'.val = 32 * t.val + r.val) :
    iblk m c 2 t (ix2 r w) = m ((c : Thread nD τ).loc main_arg2) (ix2 r' w) := by
  blk_ext! [iblk, V, places t]

theorem block3_at (t : Fin cfg0.N) (r : Fin 32) (w : Fin 256) (r' : Fin 128) (hr : r'.val = 32 * t.val + r.val) :
    iblk m c 3 t (ix2 r w) = m ((c : Thread nD τ).loc main_arg3) (ix2 r' w) := by
  blk_ext! [iblk, V, places t]

theorem block4_at (t : Fin cfg0.N) (r : Fin 32) (w : Fin 256) (r' : Fin 128) (hr : r'.val = 32 * t.val + r.val) :
    iblk m c 4 t (ix2 r w) = m ((c : Thread nD τ).loc main_arg5) (ix2 r' w) := by
  blk_ext! [iblk, V, places t]

theorem block5_at (t : Fin cfg0.N) (o : Fin 68) (k : Fin 70) : iblk m c 5 t (ix2 o k) = m ((c : Thread nD τ).loc main_arg6) (ix2 o k) := by
  blk_ext! [iblk, V, places t]

theorem block6_at (t : Fin cfg0.N) (z : Fin 1) (o : Fin 68) : iblk m c 6 t (ix2 z o) = m ((c : Thread nD τ).loc main_arg7) (ix1 o) := by
  blk_ext! [iblk, V, places t]

theorem block7_at (t : Fin cfg0.N) (e : Fin 8) (l : Fin 34) (f : Fin 103) : iblk m c 7 t (ix3 e l f) = m ((c : Thread nD τ).loc main_arg8) (ix3 e l f) := by
  blk_ext! [iblk, V, places t]

theorem block8_at (t : Fin cfg0.N) (e : Fin 8) (l : Fin 34) : iblk m c 8 t (ix2 e l) = m ((c : Thread nD τ).loc main_arg9) (ix2 e l) := by
  blk_ext! [iblk, V, places t]

theorem block9_at (t : Fin cfg0.N) (e : Fin 8) (l : Fin 34) (f : Fin 103) : iblk m c 9 t (ix3 e l f) = m ((c : Thread nD τ).loc main_arg10) (ix3 e l f) := by
  blk_ext! [iblk, V, places t]

theorem block10_at (t : Fin cfg0.N) (e : Fin 8) (l : Fin 34) : iblk m c 10 t (ix2 e l) = m ((c : Thread nD τ).loc main_arg11) (ix2 e l) := by
  blk_ext! [iblk, V, places t]

/-- The scratch after the first point. -/
def filled : Vec Ideal S576x80 .f32 :=
  stacked (k0_pay4 (iblk m c 5 t0_0) (iblk m c 7 t0_0) (iblk m c 9 t0_0))
    (k0_pay5 (iblk m c 6 t0_0) (iblk m c 7 t0_0) (iblk m c 9 t0_0) (iblk m c 8 t0_0) (iblk m c 10 t0_0))

/-- The first point. -/
theorem left_first (h0 : t0_0.val % 4 = 0) : outsAt0 m c t0_0.val t0_0.isLt =
    (block (iblk m c 0 t0_0) (iblk m c 1 t0_0) (iblk m c 2 t0_0) (iblk m c 3 t0_0) (iblk m c 4 t0_0) (filled m c), filled m c) := by
  rw [outsAt0_A m c t0_0 h0, outA, soutA, filled]

/-- A later point. -/
theorem left_later (t : Fin cfg0.N) (h0 : ¬ t.val % 4 = 0) (s : Vec Ideal S576x80 .f32) (hs : (outsAt0 m c (t.val - 1) (by have := t.isLt; omega)).2 = s) :
    outsAt0 m c t.val t.isLt = (block (iblk m c 0 t) (iblk m c 1 t) (iblk m c 2 t) (iblk m c 3 t) (iblk m c 4 t) s, s) := by
  subst hs
  rw [outsAt0_B m c t h0, outB]
  rfl

/-- Every point leaves the scratch filled and its output block computed with it. -/
theorem left (n : ℕ) (hn : n < cfg0.N) : outsAt0 m c n hn =
    (block (iblk m c 0 ⟨n, hn⟩) (iblk m c 1 ⟨n, hn⟩) (iblk m c 2 ⟨n, hn⟩) (iblk m c 3 ⟨n, hn⟩) (iblk m c 4 ⟨n, hn⟩) (filled m c), filled m c) := by
  induction n with
  | zero => exact left_first m c rfl
  | succ n ih =>
    have hN : n + 1 < 4 := lt_of_lt_of_eq hn (show cfg0.N = 4 from N_0)
    exact left_later m c ⟨n + 1, hn⟩ (by show ¬ (n + 1) % 4 = 0; omega) _ (congrArg Prod.snd (ih (Nat.lt_of_succ_lt hn)))

/-- The result array at an index. -/
theorem result_at (a : Fin 2) (l : Fin 34) (r : Fin 128) (w : Fin 256) (t : Fin cfg0.N) (q : Fin 32) (hr : r.val = 32 * t.val + q.val) :
    Value.G11 m c (ix4 a l r w) =
      block (iblk m c 0 t) (iblk m c 1 t) (iblk m c 2 t) (iblk m c 3 t) (iblk m c 4 t) (filled m c) (ix4 a l q w) := by
  have hp : Value.pt11Of (ix4 a l r w) = t.val := by
    show 4 * (a.val / 2 - 0) + 4 * (l.val / 34 - 0) + 1 * (r.val / 32 - 0) + 1 * (w.val / 256 - 0) = t.val
    omega
  have hl : Value.loc11Of (ix4 a l r w) = ix4 a l q w := by
    funext i
    fin_cases i
    · exact Fin.ext (by show a.val % 2 = a.val; omega)
    · exact Fin.ext (by show l.val % 34 = l.val; omega)
    · exact Fin.ext (by show r.val % 32 = q.val; omega)
    · exact Fin.ext (by show w.val % 256 = w.val; omega)
  unfold Value.G11
  rw [dif_pos (by rw [hp]; exact t.isLt), ← Value.outsAt0_sweep m c _ (by rw [hp]; exact t.isLt), hl, left]
  have ht : (⟨Value.pt11Of (ix4 a l r w), by rw [hp]; exact t.isLt⟩ : Fin cfg0.N) = t := Fin.ext hp
  rw [ht]

end Cert.Proof
end
-- ==== Proof.BlockAt.lean ====
/- The output block of a point read at an index: with the stacked matrix of a weight array `R` and an offset array `g`, a
   column whose index names the expert `e` receives, in output row `o`, the row `R e o` times the column's seventy inputs,
   plus `g e o`. -/
module

public import proofs.«01_k».proof.Proof.Block

@[expose] public section

set_option maxRecDepth 16384

noncomputable section

namespace Cert.Proof

open Cert.KernelIdeal Cert.KernelIdeal.Gen Idealize.ShloMosaic Idealize.ShloMosaic.TcCoe Idealize.SL.Sem Idealize.ShloMosaic.Tactic

/-- A row of the seventy weights `R e o` and the offset `g e o` applied to a column: thirty-four inputs `u`, thirty-four
    inputs `v`, and two single inputs `s`, `t`. -/
def rowOn (R : FVec Ideal S8x68x70 .f32) (g : FVec Ideal S8x68 .f32) (e : Fin 8) (o : Fin 68) (u v : Fin 34 → EReal) (s t : EReal) : EReal :=
  (∑ k : Fin 34, R (ix3 e o ⟨k.val, by omega⟩) * u k) + ((∑ k : Fin 34, R (ix3 e o ⟨34 + k.val, by omega⟩) * v k) +
    (R (ix3 e o 68) * s + (R (ix3 e o 69) * t + g (ix2 e o))))

/-- A row of the product of the stacked matrix with the column of eighty inputs. -/
theorem product_at (x0 x1 : Vec Ideal S34x32x256 .f32) (x2 x3 : Vec Ideal S32x256 .f32) (R : FVec Ideal S8x68x70 .f32) (g : FVec Ideal S8x68 .f32)
    (e : Fin 8) (o : Fin 68) (row : Fin 576) (hrow : row.val = 72 * e.val + o.val) (r : Fin 32) (w : Fin 256) (p : Fin 8192) (hp : p.val = r.val * 256 + w.val) :
    k0_pay43 x0 x1 x2 x3 (stacked R g) (ix2 row p) =
      rowOn R g e o (fun k => x0 (ix3 k r w)) (fun k => x1 (ix3 k r w)) (x2 (ix2 r w)) (x3 (ix2 r w)) := by
  have hr : (⟨p.val / 256, by omega⟩ : Fin 32) = r := Fin.ext (by show p.val / 256 = r.val; omega)
  have hw : (⟨p.val % 256, by omega⟩ : Fin 256) = w := Fin.ext (by show p.val % 256 = w.val; omega)
  have hoff : ∀ q : Fin 80, q.val = 76 → stacked R g (ix2 row q) = g (ix2 e o) := fun q hq => stacked_offset R g e o row q hrow hq
  have hz : ∀ q : Fin 80, (34 ≤ q.val ∧ q.val < 40) ∨ 77 ≤ q.val → stacked R g (ix2 row q) = 0 := fun q hq => stacked_zero R g row q (by omega)
  have h1 : ∀ (k : Fin 70) (q : Fin 80), k.val < 34 → q.val = k.val → stacked R g (ix2 row q) = R (ix3 e o k) := fun k q hk hq => stacked_weight R g e o k row q hrow (.inl ⟨hk, hq⟩)
  have h2 : ∀ (k : Fin 70) (q : Fin 80), 34 ≤ k.val → q.val = k.val + 6 → stacked R g (ix2 row q) = R (ix3 e o k) := fun k q hk hq => stacked_weight R g e o k row q hrow (.inr ⟨hk, hq⟩)
  pointwise [k0_pay43]
  simp only [hr, hw]
  generalize stacked R g = M at *
  rw [Fin.sum_univ_two_halves 34 46 rfl, Fin.sum_univ_two_halves 6 40 rfl, Fin.sum_univ_two_halves 34 6 rfl]
  have hmid : ∀ k : Fin 6, M (ix2 row ⟨34 + k.val, by omega⟩) = 0 := fun k => hz _ (.inl ⟨by show 34 ≤ 34 + k.val; omega, by show 34 + k.val < 40; omega⟩)
  unfold rowOn
  refine congrArg₂ (· + ·) (Finset.sum_congr rfl fun k _ => ?_) ?_
  · rw [dif_pos k.isLt, h1 ⟨k.val, by omega⟩ _ k.isLt rfl]
  · refine (congrArg₂ (· + ·) (Finset.sum_eq_zero fun k _ => ?_) rfl).trans ((zero_add _).trans ?_)
    · rw [hmid k, zero_mul]
    refine congrArg₂ (· + ·) (Finset.sum_congr rfl fun k _ => ?_) ?_
    · rw [dif_neg (by show ¬ (34 + (6 + k.val) < 34); omega), dif_neg (by show ¬ (34 + (6 + k.val) - 34 < 6); omega), dif_pos (by show 34 + (6 + k.val) - 34 - 6 < 34; omega),
        h2 ⟨34 + k.val, by omega⟩ _ (by show 34 ≤ 34 + k.val; omega) (by show 34 + (6 + k.val) = 34 + k.val + 6; omega)]
      refine congrArg (_ * x1 ·) ?_
      exact congrArg (ix3 · r w) (Fin.ext (by show 34 + (6 + k.val) - 34 - 6 = k.val; omega))
    · simp only [Fin.sum_univ_succ, Fin.sum_univ_zero]
      rw [h2 68 _ (by decide) rfl, h2 69 _ (by decide) rfl, hoff _ rfl, hz _ (.inr (by decide)), hz _ (.inr (by decide)), hz _ (.inr (by decide))]
      simp

/-- The eight cases of the index of an expert: the three bits of its word pick it. -/
theorem pick (e : Fin 8) (f : Fin 8 → EReal) :
    Scalar.select (IntOp.cmpi .eq (IntOp.andi (BitVec.ofNat 32 e.val) 4#32) 4#32)
      (Scalar.select (IntOp.cmpi .eq (IntOp.andi (BitVec.ofNat 32 e.val) 2#32) 2#32)
        (Scalar.select (IntOp.cmpi .eq (IntOp.andi (BitVec.ofNat 32 e.val) 1#32) 1#32) (f 7) (f 6))
        (Scalar.select (IntOp.cmpi .eq (IntOp.andi (BitVec.ofNat 32 e.val) 1#32) 1#32) (f 5) (f 4)))
      (Scalar.select (IntOp.cmpi .eq (IntOp.andi (BitVec.ofNat 32 e.val) 2#32) 2#32)
        (Scalar.select (IntOp.cmpi .eq (IntOp.andi (BitVec.ofNat 32 e.val) 1#32) 1#32) (f 3) (f 2))
        (Scalar.select (IntOp.cmpi .eq (IntOp.andi (BitVec.ofNat 32 e.val) 1#32) 1#32) (f 1) (f 0))) = f e := by
  fin_cases e <;> rfl

set_option maxHeartbeats 1000000 in
theorem block_at (x0 x1 : Vec Ideal S34x32x256 .f32) (x2 x3 : Vec Ideal S32x256 .f32) (x4 : Vec Ideal S32x256 .i32) (R : FVec Ideal S8x68x70 .f32) (g : FVec Ideal S8x68 .f32)
    (a : Fin 2) (l : Fin 34) (r : Fin 32) (w : Fin 256) (e : Fin 8) (he : x4 (ix2 r w) = BitVec.ofNat 32 e.val) :
    block x0 x1 x2 x3 x4 (stacked R g) (ix4 a l r w) =
      rowOn R g e ⟨a.val * 34 + l.val, by omega⟩ (fun k => x0 (ix3 k r w)) (fun k => x1 (ix3 k r w)) (x2 (ix2 r w)) (x3 (ix2 r w)) := by
  have hr : (⟨(r.val * 256 + w.val) / 256, by omega⟩ : Fin 32) = r := Fin.ext (by show (r.val * 256 + w.val) / 256 = r.val; omega)
  have hw : (⟨(r.val * 256 + w.val) % 256, by omega⟩ : Fin 256) = w := Fin.ext (by show (r.val * 256 + w.val) % 256 = w.val; omega)
  unfold block
  generalize hY : k0_pay43 x0 x1 x2 x3 (stacked R g) = Y
  obtain ⟨f, hf⟩ : ∃ f : Fin 8 → EReal, f = fun e' => rowOn R g e' ⟨a.val * 34 + l.val, by omega⟩ (fun k => x0 (ix3 k r w)) (fun k => x1 (ix3 k r w)) (x2 (ix2 r w)) (x3 (ix2 r w)) := ⟨_, rfl⟩
  have hrows : ∀ (e' : Fin 8) (row : Fin 576) (p : Fin 8192), row.val = 72 * e'.val + (a.val * 34 + l.val) → p.val = r.val * 256 + w.val → Y (ix2 row p) = f e' := fun e' row p h1 h2 => by
    rw [← hY, product_at x0 x1 x2 x3 R g e' ⟨a.val * 34 + l.val, by omega⟩ row h1 r w p h2, hf]
  refine Eq.trans ?_ (congrFun hf e)
  clear hf
  pointwise [k0_pay1, k0_pay45, k0_pay46, k0_pay47, k0_pay48, k0_pay44, hY]
  simp only [hr, hw, he]
  have hq : r.val * 256 + w.val < 8192 := by omega
  rw [hrows 7 ⟨504 + (a.val * 34 + l.val), by omega⟩ ⟨r.val * 256 + w.val, hq⟩ (by show 504 + (a.val * 34 + l.val) = 72 * 7 + (a.val * 34 + l.val); omega) rfl]
  rw [hrows 6 ⟨432 + (a.val * 34 + l.val), by omega⟩ ⟨r.val * 256 + w.val, hq⟩ (by show 432 + (a.val * 34 + l.val) = 72 * 6 + (a.val * 34 + l.val); omega) rfl]
  rw [hrows 5 ⟨360 + (a.val * 34 + l.val), by omega⟩ ⟨r.val * 256 + w.val, hq⟩ (by show 360 + (a.val * 34 + l.val) = 72 * 5 + (a.val * 34 + l.val); omega) rfl]
  rw [hrows 4 ⟨288 + (a.val * 34 + l.val), by omega⟩ ⟨r.val * 256 + w.val, hq⟩ (by show 288 + (a.val * 34 + l.val) = 72 * 4 + (a.val * 34 + l.val); omega) rfl]
  rw [hrows 3 ⟨216 + (a.val * 34 + l.val), by omega⟩ ⟨r.val * 256 + w.val, hq⟩ (by show 216 + (a.val * 34 + l.val) = 72 * 3 + (a.val * 34 + l.val); omega) rfl]
  rw [hrows 2 ⟨144 + (a.val * 34 + l.val), by omega⟩ ⟨r.val * 256 + w.val, hq⟩ (by show 144 + (a.val * 34 + l.val) = 72 * 2 + (a.val * 34 + l.val); omega) rfl]
  rw [hrows 1 ⟨72 + (a.val * 34 + l.val), by omega⟩ ⟨r.val * 256 + w.val, hq⟩ (by show 72 + (a.val * 34 + l.val) = 72 * 1 + (a.val * 34 + l.val); omega) rfl]
  rw [hrows 0 ⟨a.val * 34 + l.val, by omega⟩ ⟨r.val * 256 + w.val, hq⟩ (by show a.val * 34 + l.val = 72 * 0 + (a.val * 34 + l.val); omega) rfl]
  exact pick e f

end Cert.Proof
end
-- ==== Proof.Sought.lean ====
/- The arithmetic of the claim. A prediction is a row of weights times the inputs plus a base; the result is a prediction plus
   the expert's combination of thirty-three predictions and seventy inputs. Where the weights, the coefficients and the inputs
   are finite, the expert's combination may be folded into the weights first: the two are the same sum. The bases and the
   intercepts may be infinite. -/
module

public import Idealize.ShloMosaic.Lib.Pointwise

@[expose] public section

noncomputable section

namespace Cert.Proof

open Finset

/-- The inputs' part of a prediction: the weights of row `o` times the inputs. -/
def lin (u v : Fin 34 → EReal) (s t : EReal) (W : Fin 68 → Fin 70 → EReal) (o : Fin 68) : EReal :=
  (∑ k : Fin 34, u k * W o ⟨k.val, by omega⟩) + ((∑ k : Fin 34, v k * W o ⟨34 + k.val, by omega⟩) + (s * W o 68 + t * W o 69))

/-- The prediction of output `o`. -/
def pred (u v : Fin 34 → EReal) (s t : EReal) (W : Fin 68 → Fin 70 → EReal) (b : Fin 68 → EReal) (o : Fin 68) : EReal :=
  lin u v s t W o + b o

/-- The result at output `o` for an expert of coefficients `C` and intercept `I`. -/
def sought (u v : Fin 34 → EReal) (s t : EReal) (W : Fin 68 → Fin 70 → EReal) (b : Fin 68 → EReal) (C : Fin 103 → EReal) (I : EReal) (o : Fin 68) : EReal :=
  pred u v s t W b o +
    (((∑ j : Fin 15, pred u v s t W b ⟨j.val, by omega⟩ * C ⟨j.val, by omega⟩) +
      ((∑ j : Fin 18, pred u v s t W b ⟨34 + j.val, by omega⟩ * C ⟨15 + j.val, by omega⟩) +
        (s * C 33 + ((∑ k : Fin 34, u k * C ⟨34 + k.val, by omega⟩) + ((∑ k : Fin 34, v k * C ⟨68 + k.val, by omega⟩) + t * C 102))))) + I)

/-- The weight of input `k` with the expert folded in; `d` is the coefficient of the input itself. -/
def folded (W : Fin 68 → Fin 70 → EReal) (C : Fin 103 → EReal) (o : Fin 68) (k : Fin 70) (d : EReal) : EReal :=
  W o k + (((∑ j : Fin 15, C ⟨j.val, by omega⟩ * W ⟨j.val, by omega⟩ k) + ∑ j : Fin 18, C ⟨15 + j.val, by omega⟩ * W ⟨34 + j.val, by omega⟩ k) + d)

/-- The base with the expert folded in. -/
def foldedBase (b : Fin 68 → EReal) (C : Fin 103 → EReal) (I : EReal) (o : Fin 68) : EReal :=
  b o + (((∑ j : Fin 15, C ⟨j.val, by omega⟩ * b ⟨j.val, by omega⟩) + ∑ j : Fin 18, C ⟨15 + j.val, by omega⟩ * b ⟨34 + j.val, by omega⟩) + I)

/-- A real number plus anything, times a real number. -/
theorem add_mul_real (r c : ℝ) (b : EReal) : ((r : EReal) + b) * (c : EReal) = ((r * c : ℝ) : EReal) + (c : EReal) * b := by
  induction b with
  | coe b => rw [← EReal.coe_add, ← EReal.coe_mul, ← EReal.coe_mul, ← EReal.coe_add]; congr 1; ring
  | top =>
    rw [EReal.coe_add_top]
    rcases lt_trichotomy c 0 with h | h | h
    · rw [EReal.top_mul_coe_of_neg h, EReal.coe_mul_top_of_neg h, EReal.add_bot]
    · subst h; simp
    · rw [EReal.top_mul_coe_of_pos h, EReal.coe_mul_top_of_pos h, EReal.coe_add_top]
  | bot =>
    rw [EReal.add_bot]
    rcases lt_trichotomy c 0 with h | h | h
    · rw [EReal.bot_mul_coe_of_neg h, EReal.coe_mul_bot_of_neg h, EReal.coe_add_top]
    · subst h; simp
    · rw [EReal.bot_mul_coe_of_pos h, EReal.coe_mul_bot_of_pos h, EReal.add_bot]

/-- A sum of real numbers, taken among the extended reals. -/
theorem sum_real {ι : Type} [Fintype ι] (f : ι → ℝ) : (∑ i, (f i : EReal)) = ((∑ i, f i : ℝ) : EReal) := by
  classical
  induction (Finset.univ : Finset ι) using Finset.induction_on with
  | empty => simp
  | insert a S ha ih => rw [sum_insert ha, sum_insert ha, ih, EReal.coe_add]

/-- Folding the combination of two families of rows into the weights of a family of inputs. -/
theorem fold_family {ι : Type} [Fintype ι] {m n : ℕ} (w d u : ι → ℝ) (M : Fin m → ι → ℝ) (N : Fin n → ι → ℝ) (c : Fin m → ℝ) (c' : Fin n → ℝ) :
    ∑ k, (w k + (((∑ j, c j * M j k) + ∑ j, c' j * N j k) + d k)) * u k =
      (∑ k, u k * w k) + (∑ j, (∑ k, u k * M j k) * c j) + (∑ j, (∑ k, u k * N j k) * c' j) + ∑ k, u k * d k := by
  have h1 : (∑ k, (∑ j, c j * M j k) * u k) = ∑ j, (∑ k, u k * M j k) * c j := by
    simp only [sum_mul]
    rw [sum_comm]
    exact sum_congr rfl fun j _ => sum_congr rfl fun k _ => by ring
  have h2 : (∑ k, (∑ j, c' j * N j k) * u k) = ∑ j, (∑ k, u k * N j k) * c' j := by
    simp only [sum_mul]
    rw [sum_comm]
    exact sum_congr rfl fun j _ => sum_congr rfl fun k _ => by ring
  rw [← h1, ← h2, ← sum_add_distrib, ← sum_add_distrib, ← sum_add_distrib]
  exact sum_congr rfl fun k _ => by ring

/-- The inputs' part of a prediction, of real numbers. -/
def rlin (u v : Fin 34 → ℝ) (s t : ℝ) (W : Fin 68 → Fin 70 → ℝ) (o : Fin 68) : ℝ :=
  (∑ k : Fin 34, u k * W o ⟨k.val, by omega⟩) + ((∑ k : Fin 34, v k * W o ⟨34 + k.val, by omega⟩) + (s * W o 68 + t * W o 69))

/-- The folded weight, of real numbers. -/
def rfolded (W : Fin 68 → Fin 70 → ℝ) (C : Fin 103 → ℝ) (o : Fin 68) (k : Fin 70) (d : ℝ) : ℝ :=
  W o k + (((∑ j : Fin 15, C ⟨j.val, by omega⟩ * W ⟨j.val, by omega⟩ k) + ∑ j : Fin 18, C ⟨15 + j.val, by omega⟩ * W ⟨34 + j.val, by omega⟩ k) + d)

theorem lin_real (u v : Fin 34 → ℝ) (s t : ℝ) (W : Fin 68 → Fin 70 → ℝ) (o : Fin 68) :
    lin (fun k => u k) (fun k => v k) s t (fun o k => W o k) o = (rlin u v s t W o : EReal) := by
  unfold lin rlin
  simp only [← EReal.coe_mul, sum_real, ← EReal.coe_add]

theorem folded_real (W : Fin 68 → Fin 70 → ℝ) (C : Fin 103 → ℝ) (o : Fin 68) (k : Fin 70) (d : ℝ) :
    folded (fun o k => W o k) (fun f => C f) o k d = (rfolded W C o k d : EReal) := by
  unfold folded rfolded
  simp only [← EReal.coe_mul, sum_real, ← EReal.coe_add]

/-- The identity among the real numbers: folding into every weight. -/
theorem real_identity (u v : Fin 34 → ℝ) (s t : ℝ) (W : Fin 68 → Fin 70 → ℝ) (C : Fin 103 → ℝ) (o : Fin 68) :
    (∑ k : Fin 34, rfolded W C o ⟨k.val, by omega⟩ (C ⟨34 + k.val, by omega⟩) * u k) + ((∑ k : Fin 34, rfolded W C o ⟨34 + k.val, by omega⟩ (C ⟨68 + k.val, by omega⟩) * v k) +
        (rfolded W C o 68 (C 33) * s + rfolded W C o 69 (C 102) * t)) =
      rlin u v s t W o + ((∑ j : Fin 15, rlin u v s t W ⟨j.val, by omega⟩ * C ⟨j.val, by omega⟩) +
        ((∑ j : Fin 18, rlin u v s t W ⟨34 + j.val, by omega⟩ * C ⟨15 + j.val, by omega⟩) +
          (s * C 33 + ((∑ k : Fin 34, u k * C ⟨34 + k.val, by omega⟩) + ((∑ k : Fin 34, v k * C ⟨68 + k.val, by omega⟩) + t * C 102))))) := by
  have h1 := fold_family (fun k : Fin 34 => W o ⟨k.val, by omega⟩) (fun k => C ⟨34 + k.val, by omega⟩) u
    (fun j : Fin 15 => fun k => W ⟨j.val, by omega⟩ ⟨k.val, by omega⟩) (fun j : Fin 18 => fun k => W ⟨34 + j.val, by omega⟩ ⟨k.val, by omega⟩)
    (fun j => C ⟨j.val, by omega⟩) (fun j => C ⟨15 + j.val, by omega⟩)
  have h2 := fold_family (fun k : Fin 34 => W o ⟨34 + k.val, by omega⟩) (fun k => C ⟨68 + k.val, by omega⟩) v
    (fun j : Fin 15 => fun k => W ⟨j.val, by omega⟩ ⟨34 + k.val, by omega⟩) (fun j : Fin 18 => fun k => W ⟨34 + j.val, by omega⟩ ⟨34 + k.val, by omega⟩)
    (fun j => C ⟨j.val, by omega⟩) (fun j => C ⟨15 + j.val, by omega⟩)
  have h3 := fold_family (fun _ : Fin 1 => W o 68) (fun _ => C 33) (fun _ => s)
    (fun j : Fin 15 => fun _ => W ⟨j.val, by omega⟩ 68) (fun j : Fin 18 => fun _ => W ⟨34 + j.val, by omega⟩ 68)
    (fun j => C ⟨j.val, by omega⟩) (fun j => C ⟨15 + j.val, by omega⟩)
  have h4 := fold_family (fun _ : Fin 1 => W o 69) (fun _ => C 102) (fun _ => t)
    (fun j : Fin 15 => fun _ => W ⟨j.val, by omega⟩ 69) (fun j : Fin 18 => fun _ => W ⟨34 + j.val, by omega⟩ 69)
    (fun j => C ⟨j.val, by omega⟩) (fun j => C ⟨15 + j.val, by omega⟩)
  simp only [univ_unique, sum_singleton] at h3 h4
  unfold rfolded rlin
  rw [h1, h2, h3, h4]
  simp only [add_mul, sum_add_distrib]
  ring

/-- One more summand at the end of a sum of four. -/
theorem add_past {a c d e x : EReal} (h : a + (c + (d + e)) = x) (y : EReal) : a + (c + (d + (e + y))) = x + y := by
  rw [← h]
  ac_rfl

/-- The folded row on the inputs plus the folded base is the result sought. -/
theorem folded_sought (u v : Fin 34 → EReal) (s t : EReal) (W : Fin 68 → Fin 70 → EReal) (b : Fin 68 → EReal) (C : Fin 103 → EReal) (I : EReal) (o : Fin 68)
    (hu : ∀ k, ∃ r : ℝ, u k = r) (hv : ∀ k, ∃ r : ℝ, v k = r) (hs : ∃ r : ℝ, s = r) (ht : ∃ r : ℝ, t = r) (hW : ∀ o k, ∃ r : ℝ, W o k = r) (hC : ∀ f, ∃ r : ℝ, C f = r) :
    (∑ k : Fin 34, folded W C o ⟨k.val, by omega⟩ (C ⟨34 + k.val, by omega⟩) * u k) + ((∑ k : Fin 34, folded W C o ⟨34 + k.val, by omega⟩ (C ⟨68 + k.val, by omega⟩) * v k) +
        (folded W C o 68 (C 33) * s + (folded W C o 69 (C 102) * t + foldedBase b C I o))) =
      sought u v s t W b C I o := by
  choose u' hu using hu
  choose v' hv using hv
  obtain ⟨s, rfl⟩ := hs
  obtain ⟨t, rfl⟩ := ht
  choose W' hW using hW
  choose C' hC using hC
  obtain rfl : u = fun k => (u' k : EReal) := funext hu
  obtain rfl : v = fun k => (v' k : EReal) := funext hv
  obtain rfl : W = fun o k => (W' o k : EReal) := funext fun o => funext fun k => hW o k
  obtain rfl : C = fun f => (C' f : EReal) := funext hC
  have key := congrArg (fun r : ℝ => (r : EReal)) (real_identity u' v' s t W' C' o)
  unfold sought pred foldedBase
  simp only [lin_real, folded_real, add_mul_real, sum_add_distrib, ← EReal.coe_mul, sum_real] at key ⊢
  simp only [EReal.coe_add] at key ⊢
  generalize (∑ j : Fin 15, (C' ⟨j.val, by omega⟩ : EReal) * b ⟨j.val, by omega⟩) = B1
  generalize (∑ j : Fin 18, (C' ⟨15 + j.val, by omega⟩ : EReal) * b ⟨34 + j.val, by omega⟩) = B2
  refine (add_past key _).trans ?_
  ac_rfl

end Cert.Proof
end
-- ==== Proof.KernelAt.lean ====
/- The folded weights and offsets the first point computes, read at an index, and the row they give on a column: the result
   sought. -/
module

public import proofs.«01_k».proof.Proof.BlockAt
public import proofs.«01_k».proof.Proof.Sought

@[expose] public section

set_option maxRecDepth 16384

noncomputable section

namespace Cert.Proof

open Cert.KernelIdeal Cert.KernelIdeal.Gen Idealize.ShloMosaic Idealize.ShloMosaic.TcCoe Idealize.SL.Sem Idealize.ShloMosaic.Tactic

variable (x5 : Vec Ideal S68x70 .f32) (x6 : Vec Ideal S1x68 .f32) (x7 : Vec Ideal S8x34x103 .f32) (x8 : Vec Ideal S8x34 .f32) (x9 : Vec Ideal S8x34x103 .f32) (x10 : Vec Ideal S8x34 .f32)

/-- The first thirty-three coefficients, cut out of all of them. -/
theorem first_at (e : Fin 8) (o : Fin 68) (f : Fin 33) : k0_pay3 x7 x9 (ix3 e o f) = k0_pay2 x7 x9 (ix3 e o ⟨f.val, by omega⟩) := by
  pointwise [k0_pay3]

/-- The coefficients of the two halves, one half after the other. -/
theorem coefficient_at (e : Fin 8) (a : Fin 2) (l : Fin 34) (f : Fin 103) :
    k0_pay2 x7 x9 (ix3 e ⟨a.val * 34 + l.val, by omega⟩ f) = if a.val < 1 then x7 (ix3 e l f) else x9 (ix3 e l f) := by
  pointwise [k0_pay2]
  by_cases h : a.val < 1
  · rw [if_pos h, dif_pos (by show a.val * 34 + l.val < 34; omega)]
    exact congrArg (fun q => x7 (ix3 e q f)) (Fin.ext (by show a.val * 34 + l.val = l.val; omega))
  · rw [if_neg h, dif_neg (by show ¬ (a.val * 34 + l.val < 34); omega)]
    exact congrArg (fun q => x9 (ix3 e q f)) (Fin.ext (by show a.val * 34 + l.val - 34 = l.val; omega))

/-- A folded weight: the coefficient added to it is the one of the feature its input is. -/
theorem weight_at (e : Fin 8) (o : Fin 68) (k : Fin 70) (q : Fin 103)
    (hq : (k.val < 34 ∧ q.val = 34 + k.val) ∨ (34 ≤ k.val ∧ k.val < 68 ∧ q.val = 34 + k.val) ∨ (k.val = 68 ∧ q.val = 33) ∨ (k.val = 69 ∧ q.val = 102)) :
    k0_pay4 x5 x7 x9 (ix3 e o k) =
      folded (fun o k => x5 (ix2 o k)) (fun f => k0_pay2 x7 x9 (ix3 e o f)) o k (k0_pay2 x7 x9 (ix3 e o q)) := by
  unfold folded
  pointwise [k0_pay4]
  refine congrArg (x5 (ix2 o k) + ·) (congrArg₂ (· + ·) (congrArg₂ (· + ·) (Finset.sum_congr rfl fun j _ => ?_) (Finset.sum_congr rfl fun j _ => ?_)) ?_)
  · exact congrArg (· * _) (first_at x7 x9 e o _)
  · exact congrArg (· * _) (first_at x7 x9 e o _)
  · rcases hq with ⟨h1, h2⟩ | ⟨h1, h2, h3⟩ | ⟨h1, h2⟩ | ⟨h1, h2⟩
    · rw [dif_pos h1]
      exact congrArg (fun f => k0_pay2 x7 x9 (ix3 e o f)) (Fin.ext h2.symm)
    · rw [dif_neg (by omega), dif_pos (by omega)]
      exact congrArg (fun f => k0_pay2 x7 x9 (ix3 e o f)) (Fin.ext (by show 68 + (k.val - 34) = q.val; omega))
    · rw [dif_neg (by omega), dif_neg (by omega), dif_pos (by omega)]
      exact congrArg (fun f => k0_pay2 x7 x9 (ix3 e o f)) (Fin.ext (by show 33 + (k.val - 34 - 34) = q.val; omega))
    · rw [dif_neg (by omega), dif_neg (by omega), dif_neg (by omega)]
      exact congrArg (fun f => k0_pay2 x7 x9 (ix3 e o f)) (Fin.ext (by show 102 + (k.val - 34 - 34 - 1) = q.val; omega))

/-- A folded offset. -/
theorem offset_at (e : Fin 8) (a : Fin 2) (l : Fin 34) :
    k0_pay5 x6 x7 x9 x8 x10 (ix2 e ⟨a.val * 34 + l.val, by omega⟩) =
      foldedBase (fun o => x6 (ix2 0 o)) (fun f => k0_pay2 x7 x9 (ix3 e ⟨a.val * 34 + l.val, by omega⟩ f))
        (if a.val < 1 then x8 (ix2 e l) else x10 (ix2 e l)) ⟨a.val * 34 + l.val, by omega⟩ := by
  unfold foldedBase
  pointwise [k0_pay5]
  refine congrArg (x6 (ix2 0 _) + ·) (congrArg₂ (· + ·) (congrArg₂ (· + ·) (Finset.sum_congr rfl fun j _ => ?_) (Finset.sum_congr rfl fun j _ => ?_)) ?_)
  · exact congrArg (· * _) (first_at x7 x9 e _ _)
  · exact congrArg (· * _) (first_at x7 x9 e _ _)
  · by_cases h : a.val < 1
    · rw [if_pos h, dif_pos (by show a.val * 34 + l.val < 34; omega)]
      exact congrArg (fun q => x8 (ix2 e q)) (Fin.ext (by show a.val * 34 + l.val = l.val; omega))
    · rw [if_neg h, dif_neg (by show ¬ (a.val * 34 + l.val < 34); omega)]
      exact congrArg (fun q => x10 (ix2 e q)) (Fin.ext (by show a.val * 34 + l.val - 34 = l.val; omega))

/-- The row of an expert on a column of finite inputs is the result sought. -/
theorem row_sought (e : Fin 8) (a : Fin 2) (l : Fin 34) (u v : Fin 34 → EReal) (s t : EReal)
    (hu : ∀ k, ∃ r : ℝ, u k = r) (hv : ∀ k, ∃ r : ℝ, v k = r) (hs : ∃ r : ℝ, s = r) (ht : ∃ r : ℝ, t = r)
    (hW : ∀ o k, ∃ r : ℝ, x5 (ix2 o k) = r) (hC : ∀ l f, ∃ r : ℝ, x7 (ix3 e l f) = r) (hD : ∀ l f, ∃ r : ℝ, x9 (ix3 e l f) = r) :
    rowOn (k0_pay4 x5 x7 x9) (k0_pay5 x6 x7 x9 x8 x10) e ⟨a.val * 34 + l.val, by omega⟩ u v s t =
      sought u v s t (fun o k => x5 (ix2 o k)) (fun o => x6 (ix2 0 o)) (fun f => if a.val < 1 then x7 (ix3 e l f) else x9 (ix3 e l f))
        (if a.val < 1 then x8 (ix2 e l) else x10 (ix2 e l)) ⟨a.val * 34 + l.val, by omega⟩ := by
  have hC' : (fun f => k0_pay2 x7 x9 (ix3 e ⟨a.val * 34 + l.val, by omega⟩ f)) = fun f => if a.val < 1 then x7 (ix3 e l f) else x9 (ix3 e l f) :=
    funext fun f => coefficient_at x7 x9 e a l f
  rw [← hC']
  refine Eq.trans ?_ (folded_sought u v s t _ _ _ _ _ hu hv hs ht hW fun f => ?_)
  · unfold rowOn
    refine congrArg₂ (· + ·) (Finset.sum_congr rfl fun k _ => congrArg (· * u k) ?_)
      (congrArg₂ (· + ·) (Finset.sum_congr rfl fun k _ => congrArg (· * v k) ?_)
        (congrArg₂ (· + ·) (congrArg (· * s) ?_) (congrArg₂ (· + ·) (congrArg (· * t) ?_) ?_)))
    · exact weight_at x5 x7 x9 e _ _ _ (.inl ⟨k.isLt, rfl⟩)
    · exact weight_at x5 x7 x9 e _ _ _ (.inr (.inl ⟨by show 34 ≤ 34 + k.val; omega, by show 34 + k.val < 68; omega, by show 68 + k.val = 34 + (34 + k.val); omega⟩))
    · exact weight_at x5 x7 x9 e _ _ _ (.inr (.inr (.inl ⟨rfl, rfl⟩)))
    · exact weight_at x5 x7 x9 e _ _ _ (.inr (.inr (.inr ⟨rfl, rfl⟩)))
    · exact offset_at x6 x7 x8 x9 x10 e a l
  · rw [coefficient_at]
    by_cases h : a.val < 1
    · rw [if_pos h]; exact hC l f
    · rw [if_neg h]; exact hD l f

end Cert.Proof
end
-- ==== Proof.Expert.lean ====
/- The reference's choice of an expert, read at an index: for an expert index in range, the wrap of negative indices and
   the range mask do nothing, and the gather reads the row of that expert. -/
module

public import proofs.«01_k».proof.Proof.Gen.ReferenceIdeal.Read
public import Idealize.ShloMosaic.Lib.Pointwise
public import Idealize.ShloMosaic.Lib.Tactic

@[expose] public section

set_option maxRecDepth 16384

noncomputable section

namespace Cert.Proof

open Cert.ReferenceIdeal Cert.ReferenceIdeal.Gen Cert.ReferenceIdeal.Read Idealize.ShloMosaic Idealize.ShloMosaic.TcCoe Idealize.SL.Sem Idealize.ShloMosaic.Tactic

/-- The gather along the expert axis at a position and an output: the operand at the clamped expert index, the same position and output. -/
theorem gather_at (x : FVec Ideal S8x32768x34 .f32) (idx : IVec S1x32768x34x1 32) (p : Fin 32768) (o : Fin 34) (e : Fin 8)
    (he : idx (ix4 0 p o 0) = BitVec.ofNat 32 e.val) :
    Host.gather gather_S8x32768x34_S1x32768x34x1_S1x32768x34_n_0_12_12_0_3_111 x idx (ix3 0 p o) = x (ix3 e p o) := by
  unfold Host.gather
  refine congrArg x (funext fun a => Fin.ext ?_)
  show GatherDims.start _ _ idx a + GatherDims.batchCoord _ _ a + GatherDims.offCoord _ _ a = _
  rw [GatherDims.offCoord_eq_zero _ _ _ (fun h => ((GatherDims.mem_sKept _ _).mp h).elim (by revert a; decide)), Nat.add_zero]
  have h012 : a = 0 ∨ a = 1 ∨ a = 2 := by revert a; decide
  rcases h012 with rfl | rfl | rfl
  · rw [GatherDims.batchCoord_eq_zero _ _ _ (by decide), Nat.add_zero]
    unfold GatherDims.start
    rw [dif_pos (by decide)]
    rw [show GatherDims.siIdx gather_S8x32768x34_S1x32768x34x1_S1x32768x34_n_0_12_12_0_3_111 (ix3 0 p o) _ = ix4 0 p o 0 from by
      funext b; refine Fin.ext ?_
      match b with
      | ⟨0, _⟩ => rfl
      | ⟨1, _⟩ => rfl
      | ⟨2, _⟩ => rfl
      | ⟨3, _⟩ => rfl, he]
    show min (BitVec.ofNat 32 e.val).toInt.toNat 7 = e.val
    clear he
    revert e; decide
  · rw [GatherDims.start_batching _ _ _ _ (by decide), Nat.zero_add]
    unfold GatherDims.batchCoord
    rw [dif_pos (by decide)]
    rfl
  · rw [GatherDims.start_batching _ _ _ _ (by decide), Nat.zero_add]
    unfold GatherDims.batchCoord
    rw [dif_pos (by decide)]
    rfl

/-- The expert index is not negative, so the wrap of negative indices leaves it. -/
theorem wrap (e : Fin 8) : Scalar.select (IntOp.cmpi .slt (BitVec.ofNat 32 e.val) 0#32) (IntOp.addi (BitVec.ofNat 32 e.val) 8#32) (BitVec.ofNat 32 e.val) = BitVec.ofNat 32 e.val := by
  revert e; decide

/-- The expert index lies in the mask's range. -/
theorem inside (e : Fin 8) : IntOp.andi (IntOp.cmpi .sge (BitVec.ofNat 32 e.val) 0#32) (IntOp.cmpi .sle (BitVec.ofNat 32 e.val) 7#32) = 1#1 := by
  revert e; decide

theorem wrapped0 (x5 : (⟨S128x256, .i32⟩ : BufTy).Contents (Elt Ideal)) (p : Fin 32768) (o : Fin 34) (e : Fin 8)
    (he : x5 (ix2 ⟨p.val / 256, by omega⟩ ⟨p.val % 256, by omega⟩) = BitVec.ofNat 32 e.val) :
    val_main_call0_v5 (F := Ideal) x5 (ix4 0 p o 0) = BitVec.ofNat 32 e.val := by
  pointwise [val_main_call0_v5, val_main_call0_v4, val_main_call0_v3, val_main_call0_v2, val_main_call0_v1, val_main_call0_v0, val_main_call0_c, val_main_call0_c_0, val_main_v38, val_main_v37, val_main_v36]
  rw [he]
  exact wrap e

theorem inRange0 (x5 : (⟨S128x256, .i32⟩ : BufTy).Contents (Elt Ideal)) (p : Fin 32768) (o : Fin 34) (e : Fin 8)
    (he : x5 (ix2 ⟨p.val / 256, by omega⟩ ⟨p.val % 256, by omega⟩) = BitVec.ofNat 32 e.val) :
    val_main_call0_v12 (F := Ideal) x5 (ix3 0 p o) = 1#1 := by
  have h5 := wrapped0 x5 p o e he
  pointwise [val_main_call0_v12, val_main_call0_v11, val_main_call0_v10, val_main_call0_v9, val_main_call0_v8, val_main_call0_v7, val_main_call0_v6, val_main_call0_c_1, val_main_call0_c_2, val_main_call0_c_3]
  rw [Finset.univ_unique, Finset.fold_singleton]
  show IntOp.andi (IntOp.andi (IntOp.cmpi .sge (val_main_call0_v5 (F := Ideal) x5 (ix4 0 p o 0)) 0#32) (IntOp.cmpi .sle (val_main_call0_v5 (F := Ideal) x5 (ix4 0 p o 0)) 7#32)) 1#1 = 1#1
  rw [h5, inside e]
  rfl

/-- What the reference gathers at a position and an output: the value at the position's own expert. -/
theorem chosen0 (x0 x1 : (⟨S34x128x256, .f32⟩ : BufTy).Contents (Elt Ideal)) (x2 x3 : (⟨S128x256, .f32⟩ : BufTy).Contents (Elt Ideal)) (x5 : (⟨S128x256, .i32⟩ : BufTy).Contents (Elt Ideal))
    (x6 : (⟨S68x70, .f32⟩ : BufTy).Contents (Elt Ideal)) (x7 : (⟨S68, .f32⟩ : BufTy).Contents (Elt Ideal)) (x8 : (⟨S8x34x103, .f32⟩ : BufTy).Contents (Elt Ideal)) (x9 : (⟨S8x34, .f32⟩ : BufTy).Contents (Elt Ideal))
    (p : Fin 32768) (o : Fin 34) (e : Fin 8) (he : x5 (ix2 ⟨p.val / 256, by omega⟩ ⟨p.val % 256, by omega⟩) = BitVec.ofNat 32 e.val) :
    val_main_v39 (F := Ideal) x0 x1 x2 x3 x5 x6 x7 x8 x9 (ix3 0 p o) = val_main_v30 (F := Ideal) x0 x1 x2 x3 x6 x7 x8 x9 (ix3 e p o) := by
  unfold val_main_v39 val_main_call0_v13
  show Scalar.select (val_main_call0_v12 (F := Ideal) x5 (ix3 0 p o)) _ _ = _
  rw [inRange0 x5 p o e he]
  exact (ValueIdx.select_one _ _).trans (gather_at _ _ p o e (wrapped0 x5 p o e he))

theorem wrapped1 (x5 : (⟨S128x256, .i32⟩ : BufTy).Contents (Elt Ideal)) (p : Fin 32768) (o : Fin 34) (e : Fin 8)
    (he : x5 (ix2 ⟨p.val / 256, by omega⟩ ⟨p.val % 256, by omega⟩) = BitVec.ofNat 32 e.val) :
    val_main_call1_v5 (F := Ideal) x5 (ix4 0 p o 0) = BitVec.ofNat 32 e.val := by
  pointwise [val_main_call1_v5, val_main_call1_v4, val_main_call1_v3, val_main_call1_v2, val_main_call1_v1, val_main_call1_v0, val_main_call1_c, val_main_call1_c_0, val_main_v38, val_main_v37, val_main_v36]
  rw [he]
  exact wrap e

theorem inRange1 (x5 : (⟨S128x256, .i32⟩ : BufTy).Contents (Elt Ideal)) (p : Fin 32768) (o : Fin 34) (e : Fin 8)
    (he : x5 (ix2 ⟨p.val / 256, by omega⟩ ⟨p.val % 256, by omega⟩) = BitVec.ofNat 32 e.val) :
    val_main_call1_v12 (F := Ideal) x5 (ix3 0 p o) = 1#1 := by
  have h5 := wrapped1 x5 p o e he
  pointwise [val_main_call1_v12, val_main_call1_v11, val_main_call1_v10, val_main_call1_v9, val_main_call1_v8, val_main_call1_v7, val_main_call1_v6, val_main_call1_c_1, val_main_call1_c_2, val_main_call1_c_3]
  rw [Finset.univ_unique, Finset.fold_singleton]
  show IntOp.andi (IntOp.andi (IntOp.cmpi .sge (val_main_call1_v5 (F := Ideal) x5 (ix4 0 p o 0)) 0#32) (IntOp.cmpi .sle (val_main_call1_v5 (F := Ideal) x5 (ix4 0 p o 0)) 7#32)) 1#1 = 1#1
  rw [h5, inside e]
  rfl

/-- What the reference gathers at a position and an output: the value at the position's own expert. -/
theorem chosen1 (x0 x1 : (⟨S34x128x256, .f32⟩ : BufTy).Contents (Elt Ideal)) (x2 x3 : (⟨S128x256, .f32⟩ : BufTy).Contents (Elt Ideal)) (x5 : (⟨S128x256, .i32⟩ : BufTy).Contents (Elt Ideal))
    (x6 : (⟨S68x70, .f32⟩ : BufTy).Contents (Elt Ideal)) (x7 : (⟨S68, .f32⟩ : BufTy).Contents (Elt Ideal)) (x10 : (⟨S8x34x103, .f32⟩ : BufTy).Contents (Elt Ideal)) (x11 : (⟨S8x34, .f32⟩ : BufTy).Contents (Elt Ideal))
    (p : Fin 32768) (o : Fin 34) (e : Fin 8) (he : x5 (ix2 ⟨p.val / 256, by omega⟩ ⟨p.val % 256, by omega⟩) = BitVec.ofNat 32 e.val) :
    val_main_v41 (F := Ideal) x0 x1 x2 x3 x5 x6 x7 x10 x11 (ix3 0 p o) = val_main_v35 (F := Ideal) x0 x1 x2 x3 x6 x7 x10 x11 (ix3 e p o) := by
  unfold val_main_v41 val_main_call1_v13
  show Scalar.select (val_main_call1_v12 (F := Ideal) x5 (ix3 0 p o)) _ _ = _
  rw [inRange1 x5 p o e he]
  exact (ValueIdx.select_one _ _).trans (gather_at _ _ p o e (wrapped1 x5 p o e he))

end Cert.Proof
end
-- ==== Proof.Reference.lean ====
/- The reference's result at an index: the position's own expert's result at the output. -/
module

public import proofs.«01_k».proof.Proof.Expert
public import proofs.«01_k».proof.Proof.Sought

@[expose] public section

set_option maxRecDepth 16384

noncomputable section

namespace Cert.Proof

open Cert.ReferenceIdeal Cert.ReferenceIdeal.Gen Cert.ReferenceIdeal.Read Idealize.ShloMosaic Idealize.ShloMosaic.TcCoe Idealize.SL.Sem Idealize.ShloMosaic.Tactic

section
variable (x0 x1 : (⟨S34x128x256, .f32⟩ : BufTy).Contents (Elt Ideal)) (x2 x3 : (⟨S128x256, .f32⟩ : BufTy).Contents (Elt Ideal)) (x5 : (⟨S128x256, .i32⟩ : BufTy).Contents (Elt Ideal))
  (x6 : (⟨S68x70, .f32⟩ : BufTy).Contents (Elt Ideal)) (x7 : (⟨S68, .f32⟩ : BufTy).Contents (Elt Ideal)) (x8 : (⟨S8x34x103, .f32⟩ : BufTy).Contents (Elt Ideal)) (x9 : (⟨S8x34, .f32⟩ : BufTy).Contents (Elt Ideal))
  (x10 : (⟨S8x34x103, .f32⟩ : BufTy).Contents (Elt Ideal)) (x11 : (⟨S8x34, .f32⟩ : BufTy).Contents (Elt Ideal))

/-- The prediction at a position: the dense product plus the base. -/
theorem prediction_at (r : Fin 128) (w : Fin 256) (p : Fin 32768) (hp : p.val = r.val * 256 + w.val) (o : Fin 68) :
    val_main_v16 (F := Ideal) x0 x1 x2 x3 x6 x7 (ix2 p o) =
      pred (fun k => x0 (ix3 k r w)) (fun k => x1 (ix3 k r w)) (x2 (ix2 r w)) (x3 (ix2 r w)) (fun o k => x6 (ix2 o k)) (fun o => x7 (ix1 o)) o := by
  have hr : (⟨p.val / 256, by omega⟩ : Fin 128) = r := Fin.ext (by show p.val / 256 = r.val; omega)
  have hw : (⟨p.val % 256, by omega⟩ : Fin 256) = w := Fin.ext (by show p.val % 256 = w.val; omega)
  pointwise [val_main_v16, val_main_v15, val_main_v14, val_main_v13, val_main_v12, val_main_v11, val_main_v10, val_main_v9, val_main_v8, val_main_v7, val_main_v6]
  simp only [hr, hw]
  unfold pred lin
  refine congrArg₂ (· + ·) ?_ rfl
  rw [Fin.sum_univ_two_halves 34 36 rfl, Fin.sum_univ_two_halves 34 2 rfl]
  refine congrArg₂ (· + ·) (Finset.sum_congr rfl fun k _ => ?_) (congrArg₂ (· + ·) (Finset.sum_congr rfl fun k _ => ?_) ?_)
  · rw [dif_pos k.isLt]
  · rw [dif_neg (by show ¬ (34 + k.val < 34); omega), dif_pos (by show 34 + k.val - 34 < 34; omega)]
    exact congrArg (fun q => x1 (ix3 q r w) * _) (Fin.ext (by show 34 + k.val - 34 = k.val; omega))
  · simp only [Fin.sum_univ_succ, Fin.sum_univ_zero, add_zero]
    rfl

/-- The hundred and three features at a position, summed against coefficients. -/
theorem features_at (r : Fin 128) (w : Fin 256) (p : Fin 32768) (hp : p.val = r.val * 256 + w.val) (C : Fin 103 → EReal) :
    ∑ f : Fin 103, val_main_v25 (F := Ideal) x0 x1 x2 x3 x6 x7 (ix2 p f) * C f =
      (∑ j : Fin 15, val_main_v16 (F := Ideal) x0 x1 x2 x3 x6 x7 (ix2 p ⟨j.val, by omega⟩) * C ⟨j.val, by omega⟩) +
      ((∑ j : Fin 18, val_main_v16 (F := Ideal) x0 x1 x2 x3 x6 x7 (ix2 p ⟨34 + j.val, by omega⟩) * C ⟨15 + j.val, by omega⟩) +
        (x2 (ix2 r w) * C 33 + ((∑ k : Fin 34, x0 (ix3 k r w) * C ⟨34 + k.val, by omega⟩) + ((∑ k : Fin 34, x1 (ix3 k r w) * C ⟨68 + k.val, by omega⟩) + x3 (ix2 r w) * C 102)))) := by
  have hr : (⟨p.val / 256, by omega⟩ : Fin 128) = r := Fin.ext (by show p.val / 256 = r.val; omega)
  have hw : (⟨p.val % 256, by omega⟩ : Fin 256) = w := Fin.ext (by show p.val % 256 = w.val; omega)
  pointwise [val_main_v25, val_main_v24, val_main_v23, val_main_v22, val_main_v21, val_main_v20, val_main_v19, val_main_v18, val_main_v17, val_main_v9, val_main_v8, val_main_v7, val_main_v6]
  simp only [hr, hw]
  rw [Fin.sum_univ_two_halves 15 88 rfl, Fin.sum_univ_two_halves 18 70 rfl, Fin.sum_univ_two_halves 1 69 rfl, Fin.sum_univ_two_halves 34 35 rfl, Fin.sum_univ_two_halves 34 1 rfl]
  refine congrArg₂ (· + ·) (Finset.sum_congr rfl fun k _ => ?_) (congrArg₂ (· + ·) (Finset.sum_congr rfl fun k _ => ?_) (congrArg₂ (· + ·) ?_
    (congrArg₂ (· + ·) (Finset.sum_congr rfl fun k _ => ?_) (congrArg₂ (· + ·) (Finset.sum_congr rfl fun k _ => ?_) ?_))))
  · rw [dif_pos k.isLt]
  · rw [dif_neg (by show ¬ (15 + k.val < 15); omega), dif_pos (by show 15 + k.val - 15 < 18; omega)]
    exact congrArg (fun q => val_main_v16 (F := Ideal) x0 x1 x2 x3 x6 x7 (ix2 p q) * _) (Fin.ext (by show 34 + (15 + k.val - 15) = 34 + k.val; omega))
  · rw [Fin.sum_univ_one]
    rfl
  · have hk := k.isLt
    rw [dif_neg (by show ¬ (15 + (18 + (1 + k.val)) < 15); omega), dif_neg (by show ¬ (15 + (18 + (1 + k.val)) - 15 < 18); omega), dif_neg (by show ¬ (15 + (18 + (1 + k.val)) - 15 - 18 < 1); omega),
      dif_pos (by show 15 + (18 + (1 + k.val)) - 15 - 18 - 1 < 34; omega)]
    exact congrArg₂ (fun q f => x0 (ix3 q r w) * C f) (Fin.ext (by show 15 + (18 + (1 + k.val)) - 15 - 18 - 1 = k.val; omega)) (Fin.ext (by show 15 + (18 + (1 + k.val)) = 34 + k.val; omega))
  · have hk := k.isLt
    rw [dif_neg (by show ¬ (15 + (18 + (1 + (34 + k.val))) < 15); omega), dif_neg (by show ¬ (15 + (18 + (1 + (34 + k.val))) - 15 < 18); omega), dif_neg (by show ¬ (15 + (18 + (1 + (34 + k.val))) - 15 - 18 < 1); omega),
      dif_neg (by show ¬ (15 + (18 + (1 + (34 + k.val))) - 15 - 18 - 1 < 34); omega), dif_pos (by show 15 + (18 + (1 + (34 + k.val))) - 15 - 18 - 1 - 34 < 34; omega)]
    exact congrArg₂ (fun q f => x1 (ix3 q r w) * C f) (Fin.ext (by show 15 + (18 + (1 + (34 + k.val))) - 15 - 18 - 1 - 34 = k.val; omega)) (Fin.ext (by show 15 + (18 + (1 + (34 + k.val))) = 68 + k.val; omega))
  · rw [Fin.sum_univ_one]
    rfl

/-- The first output family's combination for an expert at a position. -/
theorem combined0_at (e : Fin 8) (p : Fin 32768) (o : Fin 34) : val_main_v30 (F := Ideal) x0 x1 x2 x3 x6 x7 x8 x9 (ix3 e p o) =
    (∑ f : Fin 103, val_main_v25 (F := Ideal) x0 x1 x2 x3 x6 x7 (ix2 p f) * x8 (ix3 e o f)) + x9 (ix2 e o) := by
  pointwise [val_main_v30, val_main_v29, val_main_v28, val_main_v27, val_main_v26]

/-- The second output family's. -/
theorem combined1_at (e : Fin 8) (p : Fin 32768) (o : Fin 34) : val_main_v35 (F := Ideal) x0 x1 x2 x3 x6 x7 x10 x11 (ix3 e p o) =
    (∑ f : Fin 103, val_main_v25 (F := Ideal) x0 x1 x2 x3 x6 x7 (ix2 p f) * x10 (ix3 e o f)) + x11 (ix2 e o) := by
  pointwise [val_main_v35, val_main_v34, val_main_v33, val_main_v32, val_main_v31]

/-- The reference's result at an index. -/
theorem reference_at (a : Fin 2) (l : Fin 34) (r : Fin 128) (w : Fin 256) (e : Fin 8) (he : x5 (ix2 r w) = BitVec.ofNat 32 e.val) :
    val_main_v55 (F := Ideal) x0 x1 x2 x3 x5 x6 x7 x8 x9 x10 x11 (ix4 a l r w) =
      sought (fun k => x0 (ix3 k r w)) (fun k => x1 (ix3 k r w)) (x2 (ix2 r w)) (x3 (ix2 r w)) (fun o k => x6 (ix2 o k)) (fun o => x7 (ix1 o))
        (fun f => if a.val < 1 then x8 (ix3 e l f) else x10 (ix3 e l f)) (if a.val < 1 then x9 (ix2 e l) else x11 (ix2 e l)) ⟨a.val * 34 + l.val, by omega⟩ := by
  have hp : r.val * 256 + w.val < 32768 := by omega
  have he' : x5 (ix2 ⟨(r.val * 256 + w.val) / 256, by omega⟩ ⟨(r.val * 256 + w.val) % 256, by omega⟩) = BitVec.ofNat 32 e.val := by
    rw [← he]
    exact congrArg₂ (fun i j => x5 (ix2 i j)) (Fin.ext (by show (r.val * 256 + w.val) / 256 = r.val; omega)) (Fin.ext (by show (r.val * 256 + w.val) % 256 = w.val; omega))
  pointwise [val_main_v55, val_main_v54, val_main_v53, val_main_v52, val_main_v51, val_main_v50, val_main_v49, val_main_v48, val_main_v47, val_main_v46, val_main_v45, val_main_v44, val_main_v43, val_main_v42, val_main_v40, val_main_v18, val_main_v17, val_main_cst_1, val_main_cst_2]
  unfold sought
  by_cases h : a.val < 1
  · simp only [h, dif_pos, if_true]
    rw [chosen0 x0 x1 x2 x3 x5 x6 x7 x8 x9 ⟨r.val * 256 + w.val, hp⟩ l e he', combined0_at, features_at x0 x1 x2 x3 x6 x7 r w _ rfl]
    simp only [prediction_at x0 x1 x2 x3 x6 x7 r w ⟨r.val * 256 + w.val, hp⟩ rfl]
    refine congrArg (pred _ _ _ _ _ _ · + _) (Fin.ext ?_)
    show l.val = a.val * 34 + l.val
    omega
  · simp only [h, dif_neg, if_false, not_false_eq_true]
    rw [chosen1 x0 x1 x2 x3 x5 x6 x7 x10 x11 ⟨r.val * 256 + w.val, hp⟩ l e he', combined1_at, features_at x0 x1 x2 x3 x6 x7 r w _ rfl]
    simp only [prediction_at x0 x1 x2 x3 x6 x7 r w ⟨r.val * 256 + w.val, hp⟩ rfl]
    refine congrArg (pred _ _ _ _ _ _ · + _) (Fin.ext ?_)
    show 34 + l.val = a.val * 34 + l.val
    omega

end

end Cert.Proof
end
-- ==== Proof.lean ====
/- The certificate's claim. The kernel's result array at an index is the result sought for that column and output row, by what
   its points leave and by the row of folded weights; the host reference's result at the same index is the same number; the
   frames are the generated runs. -/
module

public import proofs.«01_k».proof.Defs
public import proofs.«01_k».proof.Proof.Gen.Kernel.Frame
public import proofs.«01_k».proof.Proof.Gen.KernelIdeal.Value
public import proofs.«01_k».proof.Proof.Gen.Pre_finite_columns_and_experts_in_range
public import proofs.«01_k».proof.Proof.Gen.ReferenceIdeal.Run
public import proofs.«01_k».proof.Proof.Bounds
public import proofs.«01_k».proof.Proof.Fold
public import proofs.«01_k».proof.Proof.KernelAt
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Idealize.ShloMosaic.Tactic

/-- The kernel's result array is the host's result on the same arguments. -/
theorem same_result (m : (ℓ : Loc Cert.KernelIdeal.nD Cert.KernelIdeal.τ Cert.KernelIdeal.sig) → Buf (Elt Ideal) ℓ)
    (hpre : Pre_KernelIdeal_finite_columns_and_experts_in_range m) (c : Dev Cert.KernelIdeal.nD) :
    Cert.ReferenceIdeal.Read.val_main_v55 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) =
    Cert.KernelIdeal.Value.G11 m c := by
  obtain ⟨p0, p1, p2, p3, p5, p6, p8, p10⟩ := hpre c
  have q0 := real0 _ _ _ _ _ _ _ _ _ _ _ _ p0
  have q1 := real1 _ _ _ _ _ _ _ _ _ _ _ _ p1
  have q2 := real2 _ _ _ _ _ _ _ _ _ _ _ _ p2
  have q3 := real3 _ _ _ _ _ _ _ _ _ _ _ _ p3
  have q5 := expert5 _ _ _ _ _ _ _ _ _ _ _ _ p5
  have q6 := real6 _ _ _ _ _ _ _ _ _ _ _ _ p6
  have q8 := real8 _ _ _ _ _ _ _ _ _ _ _ _ p8
  have q10 := real10 _ _ _ _ _ _ _ _ _ _ _ _ p10
  clear p0 p1 p2 p3 p5 p6 p8 p10
  funext i
  obtain ⟨a, l, r, w, rfl⟩ : ∃ (a : Fin 2) (l : Fin 34) (r : Fin 128) (w : Fin 256), i = ix4 a l r w := ⟨_, _, _, _, eq_ix4 i⟩
  obtain ⟨e, he⟩ := q5 (ix2 r w)
  have hr := r.isLt
  have ht : r.val / 32 < Cert.KernelIdeal.cfg0.N := lt_of_lt_of_eq (by omega) (show (4 : ℕ) = Cert.KernelIdeal.cfg0.N from Cert.KernelIdeal.Gen.N_0.symm)
  have hq : r.val = 32 * (⟨r.val / 32, ht⟩ : Fin Cert.KernelIdeal.cfg0.N).val + (⟨r.val % 32, by omega⟩ : Fin 32).val := by
    show r.val = 32 * (r.val / 32) + r.val % 32; omega
  generalize (⟨r.val / 32, ht⟩ : Fin Cert.KernelIdeal.cfg0.N) = t at hq
  generalize (⟨r.val % 32, by omega⟩ : Fin 32) = q at hq
  refine (reference_at _ _ _ _ _ _ _ _ _ _ _ a l r w e he).trans (Eq.symm ?_)
  refine (result_at m c a l r w t q hq).trans ?_
  unfold filled
  refine (block_at _ _ _ _ _ _ _ a l q w e ((block4_at m c t q w r hq).trans he)).trans ?_
  rw [funext fun k => block0_at m c t k q w r hq, funext fun k => block1_at m c t k q w r hq, block2_at m c t q w r hq, block3_at m c t q w r hq]
  refine (row_sought _ _ _ _ _ _ e a l _ _ _ _ (fun k => q0 _) (fun k => q1 _) (q2 _) (q3 _) (fun o k => ?_) (fun l f => ?_) (fun l f => ?_)).trans ?_
  · rw [block5_at]; exact q6 _
  · rw [block7_at]; exact q8 _
  · rw [block9_at]; exact q10 _
  · simp only [block5_at, block6_at, block7_at, block8_at, block9_at, block10_at]

theorem quiet_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem same_values : algebraic_KernelIdeal_ReferenceIdeal_pre_finite_columns_and_experts_in_range := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v55_eq]
  simp only [hagree c]
  exact same_result m hpre c

theorem claim : Cert.Claim := ⟨Cert.Kernel.Gen.facts, Cert.KernelIdeal.Gen.facts, Cert.ReferenceIdeal.Gen.facts, Cert.Pre_finite_columns_and_experts_in_range.Gen.facts,
  fun m ρ _ => Cert.Kernel.Gen.frame m ρ, fun m ρ _ => Cert.KernelIdeal.Gen.frame m ρ, fun m ρ _ => Cert.KernelIdeal.Gen.frame m ρ, quiet_reference,
  fun m ρ _ => quiet_reference m ρ trivial, (trivial : preserves_Kernel_KernelIdeal), same_values⟩

end Cert.Proof

end
